-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proposals_bounded [hPre_proposals_bounded : Cert.Pre_proposals_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_proposals_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proposals_bounded [hPre_proposals_bounded : Cert.Pre_proposals_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proposals_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proposals_bounded [hKernelIdeal : Cert.KernelIdeal.Facts] [hPre_proposals_bounded : Cert.Pre_proposals_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proposals_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proposals_bounded [hReferenceIdeal : Cert.ReferenceIdeal.Facts] [hPre_proposals_bounded : Cert.Pre_proposals_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proposals_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv27" .f32 0x3D17B426#32 ((27⁻¹ : ℝ) : EReal)

def algebraic_KernelIdeal_ReferenceIdeal_pre_proposals_bounded [hKernelIdeal : Cert.KernelIdeal.Facts] [hReferenceIdeal : Cert.ReferenceIdeal.Facts] [hPre_proposals_bounded : Cert.Pre_proposals_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proposals_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_v311) = v1 c
          ∧ r.2.mem ((c.tc : Thread Cert.ReferenceIdeal.nD Cert.ReferenceIdeal.τ).loc Cert.ReferenceIdeal.main_v312) = v2 c
          ∧ r.2.mem ((c.tc : Thread Cert.ReferenceIdeal.nD Cert.ReferenceIdeal.τ).loc Cert.ReferenceIdeal.main_v313) = v3 c
          ∧ r.2.mem ((c.tc : Thread Cert.ReferenceIdeal.nD Cert.ReferenceIdeal.τ).loc Cert.ReferenceIdeal.main_v314) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_proposals_bounded : Cert.Pre_proposals_bounded.Facts),
    quiescent_Kernel (hKernel := hKernel)
    ∧ quiescent_KernelIdeal (hKernelIdeal := hKernelIdeal)
    ∧ quiescent_KernelIdeal_pre_proposals_bounded (hKernelIdeal := hKernelIdeal) (hPre_proposals_bounded := hPre_proposals_bounded)
    ∧ quiescent_ReferenceIdeal (hReferenceIdeal := hReferenceIdeal)
    ∧ quiescent_ReferenceIdeal_pre_proposals_bounded (hReferenceIdeal := hReferenceIdeal) (hPre_proposals_bounded := hPre_proposals_bounded)
    ∧ preserves_Kernel_KernelIdeal
    ∧ algebraic_KernelIdeal_ReferenceIdeal_pre_proposals_bounded (hKernelIdeal := hKernelIdeal) (hReferenceIdeal := hReferenceIdeal) (hPre_proposals_bounded := hPre_proposals_bounded)
-- ==== Pre_proposals_bounded.lean ====
abbrev S20000x6 : Shape := ⟨2, ![20000, 6]⟩
abbrev S20000 : Shape := ⟨1, ![20000]⟩
abbrev S4x8x6 : Shape := ⟨3, ![4, 8, 6]⟩
abbrev S4x8 : Shape := ⟨2, ![4, 8]⟩
abbrev S4x64x64x64 : Shape := ⟨4, ![4, 64, 64, 64]⟩
abbrev S_ : Shape := ⟨0, ![]⟩

class Facts : Prop where
  bcast_S_S20000x6 : S_.BroadcastsInDim S20000x6 (![] : Fin 0 → Fin S20000x6.rank)

variable [Facts]

def fn {F : FTy → Type} [FloatOps F] (main_arg0 : FVec F S20000x6 .f32) (main_arg1 : IVec S20000 32) (main_arg2 : FVec F S4x8x6 .f32) (main_arg3 : IVec S4x8 32) (main_arg4 : FVec F S4x64x64x64 .f32) : IVec S20000x6 1 :=
  let main_v0 : FVec F S20000x6 .f32 := Host.absf main_arg0
  let main_cst : FVec F S_ .f32 := constant S_ .f32 0x4C000000#32
  let main_v1 : FVec F S20000x6 .f32 := broadcastInDim S20000x6 ![] bcast_S_S20000x6 main_cst
  let main_v2 : IVec S20000x6 1 := cmpf .ole main_v0 main_v1
  main_v2
-- ==== Kernel.lean ====
abbrev S20000x6 : Shape := ⟨2, ![20000, 6]⟩
abbrev S20000 : Shape := ⟨1, ![20000]⟩
abbrev S4x8x6 : Shape := ⟨3, ![4, 8, 6]⟩
abbrev S4x8 : Shape := ⟨2, ![4, 8]⟩
abbrev S4x64x64x64 : Shape := ⟨4, ![4, 64, 64, 64]⟩
abbrev S6x20000 : Shape := ⟨2, ![6, 20000]⟩
abbrev S1x20000 : Shape := ⟨2, ![1, 20000]⟩
abbrev S4x8x20000 : Shape := ⟨3, ![4, 8, 20000]⟩
abbrev S4x160000 : Shape := ⟨2, ![4, 160000]⟩
abbrev S4x64 : Shape := ⟨2, ![4, 64]⟩
abbrev S4x192 : Shape := ⟨2, ![4, 192]⟩
abbrev S4x256 : Shape := ⟨2, ![4, 256]⟩
abbrev S_ : Shape := ⟨0, ![]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x6 : Shape := ⟨2, ![1024, 6]⟩
abbrev S4x256x1 : Shape := ⟨3, ![4, 256, 1]⟩
abbrev S1x1x1 : Shape := ⟨3, ![1, 1, 1]⟩
abbrev S4x256x6 : Shape := ⟨3, ![4, 256, 6]⟩
abbrev S4 : Shape := ⟨1, ![4]⟩
abbrev S3 : Shape := ⟨1, ![3]⟩
abbrev S4x1 : Shape := ⟨2, ![4, 1]⟩
abbrev S1024x1x6 : Shape := ⟨3, ![1024, 1, 6]⟩
abbrev S1024x28x28x28 : Shape := ⟨4, ![1024, 28, 28, 28]⟩
abbrev S1x8x6 : Shape := ⟨3, ![1, 8, 6]⟩
abbrev S1x8x20000 : Shape := ⟨3, ![1, 8, 20000]⟩
abbrev S8x6 : Shape := ⟨2, ![8, 6]⟩
abbrev S8x1 : Shape := ⟨2, ![8, 1]⟩
abbrev S8x20000 : Shape := ⟨2, ![8, 20000]⟩
abbrev S1x1x6 : Shape := ⟨3, ![1, 1, 6]⟩
abbrev S1x64x64x64 : Shape := ⟨4, ![1, 64, 64, 64]⟩
abbrev S1x28x28x28 : Shape := ⟨4, ![1, 28, 28, 28]⟩
abbrev S1x6 : Shape := ⟨2, ![1, 6]⟩
abbrev S64x64x64 : Shape := ⟨3, ![64, 64, 64]⟩
abbrev S1x3 : Shape := ⟨2, ![1, 3]⟩
abbrev S28x1 : Shape := ⟨2, ![28, 1]⟩
abbrev S1x64 : Shape := ⟨2, ![1, 64]⟩
abbrev S28x64 : Shape := ⟨2, ![28, 64]⟩
abbrev S64x4096 : Shape := ⟨2, ![64, 4096]⟩
abbrev S28x4096 : Shape := ⟨2, ![28, 4096]⟩
abbrev S28x64x64 : Shape := ⟨3, ![28, 64, 64]⟩
abbrev S1792x64 : Shape := ⟨2, ![1792, 64]⟩
abbrev S64x28 : Shape := ⟨2, ![64, 28]⟩
abbrev S1792x28 : Shape := ⟨2, ![1792, 28]⟩
abbrev S28x64x28 : Shape := ⟨3, ![28, 64, 28]⟩
abbrev S28x28x64 : Shape := ⟨3, ![28, 28, 64]⟩
abbrev S784x64 : Shape := ⟨2, ![784, 64]⟩
abbrev S784x28 : Shape := ⟨2, ![784, 28]⟩
abbrev S28x28x28 : Shape := ⟨3, ![28, 28, 28]⟩

abbrev nBuf : Space → Nat
  | .hbm => 194
  | .vmem => 18
  | .smem => 0
  | _ => 0

abbrev hbmTy0_0 (i : Nat) : BufTy := match i % 128 with
  | 0 => ⟨S20000x6, .f32⟩
  | 1 => ⟨S20000, .i32⟩
  | 2 => ⟨S4x8x6, .f32⟩
  | 3 => ⟨S4x8, .i32⟩
  | 4 => ⟨S4x64x64x64, .f32⟩
  | 5 => ⟨S6x20000, .f32⟩
  | 6 => ⟨S1x20000, .i32⟩
  | 7 => ⟨S4x8x20000, .f32⟩
  | 8 => ⟨S4x8x20000, .f32⟩
  | 9 => ⟨S4x160000, .f32⟩
  | 10 => ⟨S4x64, .f32⟩
  | 11 => ⟨S4x64, .i32⟩
  | 12 => ⟨S4x160000, .f32⟩
  | 13 => ⟨S4x192, .f32⟩
  | 14 => ⟨S4x192, .i32⟩
  | 15 => ⟨S4x256, .i32⟩
  | 16 => ⟨S_, .i32⟩
  | 17 => ⟨S_, .i32⟩
  | 18 => ⟨S4x256, .i32⟩
  | 19 => ⟨S4x256, .i32⟩
  | 20 => ⟨S4x256, .i32⟩
  | 21 => ⟨S_, .i32⟩
  | 22 => ⟨S4x256, .i32⟩
  | 23 => ⟨S4x256, .i1⟩
  | 24 => ⟨S4x256, .i32⟩
  | 25 => ⟨S4x256, .i32⟩
  | 26 => ⟨S_, .i32⟩
  | 27 => ⟨S4x256, .i32⟩
  | 28 => ⟨S4x256, .i1⟩
  | 29 => ⟨S4x256, .i1⟩
  | 30 => ⟨S_, .i32⟩
  | 31 => ⟨S4x256, .i32⟩
  | 32 => ⟨S4x256, .i32⟩
  | 33 => ⟨S4x256, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S4x256, .i32⟩
  | 41 => ⟨S4x256, .i32⟩
  | 42 => ⟨S_, .i32⟩
  | 43 => ⟨S4x256, .i32⟩
  | 44 => ⟨S4x256, .i1⟩
  | 45 => ⟨S_, .i32⟩
  | 46 => ⟨S4x256, .i32⟩
  | 47 => ⟨S4x256, .i1⟩
  | 48 => ⟨S_, .i32⟩
  | 49 => ⟨S_, .i1⟩
  | 50 => ⟨S4x256, .i1⟩
  | 51 => ⟨S4x256, .i1⟩
  | 52 => ⟨S4x256, .i1⟩
  | 53 => ⟨S4x256, .i32⟩
  | 54 => ⟨S4x256, .i32⟩
  | 55 => ⟨S4x256, .i32⟩
  | 56 => ⟨S1024, .i32⟩
  | 57 => ⟨S_, .i32⟩
  | 58 => ⟨S1024, .i32⟩
  | 59 => ⟨S1024, .i1⟩
  | 60 => ⟨S_, .i32⟩
  | 61 => ⟨S1024, .i32⟩
  | 62 => ⟨S1024, .i32⟩
  | 63 => ⟨S1024, .i32⟩
  | 64 => ⟨S1024x1, .i32⟩
  | 65 => ⟨S1, .i32⟩
  | 66 => ⟨S_, .i32⟩
  | 67 => ⟨S1024x1, .i32⟩
  | 68 => ⟨S1024x1, .i1⟩
  | 69 => ⟨S1x1, .i32⟩
  | 70 => ⟨S1024x1, .i32⟩
  | 71 => ⟨S1024x1, .i1⟩
  | 72 => ⟨S1024x1, .i1⟩
  | 73 => ⟨S_, .i1⟩
  | 74 => ⟨S1024, .i1⟩
  | 75 => ⟨S1024x6, .f32⟩
  | 76 => ⟨S1024x6, .i1⟩
  | 77 => ⟨S_, .f32⟩
  | 78 => ⟨S1024x6, .f32⟩
  | 79 => ⟨S1024x6, .f32⟩
  | 80 => ⟨S4x256x1, .i32⟩
  | 81 => ⟨S_, .i32⟩
  | 82 => ⟨S4x256x1, .i32⟩
  | 83 => ⟨S4x256x1, .i1⟩
  | 84 => ⟨S_, .i32⟩
  | 85 => ⟨S4x256x1, .i32⟩
  | 86 => ⟨S4x256x1, .i32⟩
  | 87 => ⟨S4x256x1, .i32⟩
  | 88 => ⟨S1, .i32⟩
  | 89 => ⟨S_, .i32⟩
  | 90 => ⟨S4x256x1, .i32⟩
  | 91 => ⟨S4x256x1, .i1⟩
  | 92 => ⟨S1x1x1, .i32⟩
  | 93 => ⟨S4x256x1, .i32⟩
  | 94 => ⟨S4x256x1, .i1⟩
  | 95 => ⟨S4x256x1, .i1⟩
  | 96 => ⟨S_, .i1⟩
  | 97 => ⟨S4x256, .i1⟩
  | 98 => ⟨S4x256x6, .f32⟩
  | 99 => ⟨S4x256x6, .i1⟩
  | 100 => ⟨S_, .f32⟩
  | 101 => ⟨S4x256x6, .f32⟩
  | 102 => ⟨S4x256x6, .f32⟩
  | 103 => ⟨S_, .i32⟩
  | 104 => ⟨S4x256, .i32⟩
  | 105 => ⟨S4x256, .i1⟩
  | 106 => ⟨S_, .i32⟩
  | 107 => ⟨S4x256, .i32⟩
  | 108 => ⟨S4x256, .i32⟩
  | 109 => ⟨S4x256, .i32⟩
  | 110 => ⟨S4x256x1, .i32⟩
  | 111 => ⟨S1, .i32⟩
  | 112 => ⟨S_, .i32⟩
  | 113 => ⟨S4x256x1, .i32⟩
  | 114 => ⟨S4x256x1, .i1⟩
  | 115 => ⟨S1x1x1, .i32⟩
  | 116 => ⟨S4x256x1, .i32⟩
  | 117 => ⟨S4x256x1, .i1⟩
  | 118 => ⟨S4x256x1, .i1⟩
  | 119 => ⟨S_, .i1⟩
  | 120 => ⟨S4x256, .i1⟩
  | 121 => ⟨S4x256, .i32⟩
  | 122 => ⟨S_, .i32⟩
  | 123 => ⟨S4x256, .i32⟩
  | 124 => ⟨S4x256, .i32⟩
  | 125 => ⟨S_, .i32⟩
  | 126 => ⟨S1, .i32⟩
  | 127 => ⟨S_, .i32⟩
  | _ => ⟨S20000x6, .f32⟩

abbrev hbmTy0_1 (i : Nat) : BufTy := match i % 128 with
  | 0 => ⟨S4x192, .i32⟩
  | 1 => ⟨S4x256, .i32⟩
  | 2 => ⟨S1024, .i32⟩
  | 3 => ⟨S4, .i32⟩
  | 4 => ⟨S_, .i32⟩
  | 5 => ⟨S1, .i32⟩
  | 6 => ⟨S4, .i32⟩
  | 7 => ⟨S1, .i32⟩
  | 8 => ⟨S3, .i32⟩
  | 9 => ⟨S4, .i32⟩
  | 10 => ⟨S_, .i32⟩
  | 11 => ⟨S1, .i32⟩
  | 12 => ⟨S4, .i32⟩
  | 13 => ⟨S_, .i32⟩
  | 14 => ⟨S4, .i32⟩
  | 15 => ⟨S4, .i32⟩
  | 16 => ⟨S4, .i32⟩
  | 17 => ⟨S_, .i32⟩
  | 18 => ⟨S_, .i32⟩
  | 19 => ⟨S4, .i32⟩
  | 20 => ⟨S_, .i32⟩
  | 21 => ⟨S1024, .i32⟩
  | 22 => ⟨S_, .i32⟩
  | 23 => ⟨S4, .i32⟩
  | 24 => ⟨S4, .i1⟩
  | 25 => ⟨S_, .i32⟩
  | 26 => ⟨S4, .i32⟩
  | 27 => ⟨S4, .i32⟩
  | 28 => ⟨S4, .i32⟩
  | 29 => ⟨S4x1, .i32⟩
  | 30 => ⟨S_, .i32⟩
  | 31 => ⟨S4, .i32⟩
  | 32 => ⟨S1024, .i32⟩
  | 33 => ⟨S_, .i32⟩
  | 34 => ⟨S_, .i32⟩
  | 35 => ⟨S1024, .i32⟩
  | 36 => ⟨S_, .i32⟩
  | 37 => ⟨S1024, .i32⟩
  | 38 => ⟨S1024, .i32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S1, .i32⟩
  | 48 => ⟨S_, .i32⟩
  | 49 => ⟨S1024x1, .i32⟩
  | 50 => ⟨S1024x1, .i1⟩
  | 51 => ⟨S1x1, .i32⟩
  | 52 => ⟨S1024x1, .i32⟩
  | 53 => ⟨S1024x1, .i1⟩
  | 54 => ⟨S1024x1, .i1⟩
  | 55 => ⟨S_, .i1⟩
  | 56 => ⟨S1024, .i1⟩
  | 57 => ⟨S1024, .i32⟩
  | 58 => ⟨S_, .i32⟩
  | 59 => ⟨S1024, .i32⟩
  | 60 => ⟨S1024, .i32⟩
  | 61 => ⟨S1024x1x6, .f32⟩
  | 62 => ⟨S1024x1x6, .f32⟩
  | 63 => ⟨S1024x28x28x28, .f32⟩
  | 64 => ⟨S1024x1x6, .f32⟩
  | 65 => ⟨S1024x6, .f32⟩
  | _ => ⟨S20000x6, .f32⟩

abbrev hbmTy (i : Nat) : BufTy := match i / 128 with
  | 0 => hbmTy0_0 i
  | 1 => hbmTy0_1 i
  | _ => ⟨S20000x6, .f32⟩

abbrev bufTy : (tb : Table) → Fin (tcTables nBuf tb) → BufTy
  | .hbm, ⟨i, _⟩ => hbmTy i
  | .local _ .vmem, ⟨0, _⟩ => ⟨S6x20000, .f32⟩
  | .local _ .vmem, ⟨1, _⟩ => ⟨S1x20000, .i32⟩
  | .local _ .vmem, ⟨2, _⟩ => ⟨S1x8x6, .f32⟩
  | .local _ .vmem, ⟨3, _⟩ => ⟨S1x8x6, .f32⟩
  | .local _ .vmem, ⟨4, _⟩ => ⟨S1x8x20000, .f32⟩
  | .local _ .vmem, ⟨5, _⟩ => ⟨S1x8x20000, .f32⟩
  | .local _ .vmem, ⟨6, _⟩ => ⟨S1x8x20000, .f32⟩
  | .local _ .vmem, ⟨7, _⟩ => ⟨S1x8x20000, .f32⟩
  | .local _ .vmem, ⟨8, _⟩ => ⟨S1x1x6, .f32⟩
  | .local _ .vmem, ⟨9, _⟩ => ⟨S1x1x6, .f32⟩
  | .local _ .vmem, ⟨10, _⟩ => ⟨S1x1x6, .f32⟩
  | .local _ .vmem, ⟨11, _⟩ => ⟨S1x1x6, .f32⟩
  | .local _ .vmem, ⟨12, _⟩ => ⟨S1x64x64x64, .f32⟩
  | .local _ .vmem, ⟨13, _⟩ => ⟨S1x64x64x64, .f32⟩
  | .local _ .vmem, ⟨14, _⟩ => ⟨S1x28x28x28, .f32⟩
  | .local _ .vmem, ⟨15, _⟩ => ⟨S1x28x28x28, .f32⟩
  | .local _ .vmem, ⟨16, _⟩ => ⟨S1x1x6, .f32⟩
  | .local _ .vmem, ⟨17, _⟩ => ⟨S1x1x6, .f32⟩
  | _, _ => ⟨S20000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_call0_v2_1 : Ref sig .tc := ⟨.hbm, 8, rfl⟩
abbrev main_call0_v3 : Ref sig .tc := ⟨.hbm, 9, rfl⟩
abbrev main_call0_values : Ref sig .tc := ⟨.hbm, 10, rfl⟩
abbrev main_call0_indices : Ref sig .tc := ⟨.hbm, 11, rfl⟩
abbrev main_call0_v4 : Ref sig .tc := ⟨.hbm, 12, rfl⟩
abbrev main_call0_values_0 : Ref sig .tc := ⟨.hbm, 13, rfl⟩
abbrev main_call0_indices_1 : Ref sig .tc := ⟨.hbm, 14, rfl⟩
abbrev main_call0_v5 : Ref sig .tc := ⟨.hbm, 15, rfl⟩
abbrev main_call0_c : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_c : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_c_0 : Ref sig .tc := ⟨.hbm, 30, rfl⟩
abbrev main_call0_call0_v12 : Ref sig .tc := ⟨.hbm, 31, rfl⟩
abbrev main_call0_call0_v13 : Ref sig .tc := ⟨.hbm, 32, rfl⟩
abbrev main_call0_v6 : Ref sig .tc := ⟨.hbm, 33, rfl⟩
abbrev main_call0_c_2 : Ref sig .tc := ⟨.hbm, 34, rfl⟩
abbrev main_call0_call1_v0 : Ref sig .tc := ⟨.hbm, 35, rfl⟩
abbrev main_call0_call1_c : Ref sig .tc := ⟨.hbm, 36, rfl⟩
abbrev main_call0_call1_v1 : Ref sig .tc := ⟨.hbm, 37, rfl⟩
abbrev main_call0_call1_c_0 : Ref sig .tc := ⟨.hbm, 38, rfl⟩
abbrev main_call0_call1_v2 : Ref sig .tc := ⟨.hbm, 39, rfl⟩
abbrev main_call0_call1_v3 : Ref sig .tc := ⟨.hbm, 40, rfl⟩
abbrev main_call0_call1_v4 : Ref sig .tc := ⟨.hbm, 41, rfl⟩
abbrev main_call0_call1_c_1 : Ref sig .tc := ⟨.hbm, 42, rfl⟩
abbrev main_call0_call1_v5 : Ref sig .tc := ⟨.hbm, 43, rfl⟩
abbrev main_call0_call1_v6 : Ref sig .tc := ⟨.hbm, 44, rfl⟩
abbrev main_call0_call1_c_2 : Ref sig .tc := ⟨.hbm, 45, rfl⟩
abbrev main_call0_call1_v7 : Ref sig .tc := ⟨.hbm, 46, rfl⟩
abbrev main_call0_call1_v8 : Ref sig .tc := ⟨.hbm, 47, rfl⟩
abbrev main_call0_call1_c_3 : Ref sig .tc := ⟨.hbm, 48, rfl⟩
abbrev main_call0_call1_v9 : Ref sig .tc := ⟨.hbm, 49, rfl⟩
abbrev main_call0_call1_v10 : Ref sig .tc := ⟨.hbm, 50, rfl⟩
abbrev main_call0_call1_v11 : Ref sig .tc := ⟨.hbm, 51, rfl⟩
abbrev main_call0_call1_v12 : Ref sig .tc := ⟨.hbm, 52, rfl⟩
abbrev main_call0_call1_v13 : Ref sig .tc := ⟨.hbm, 53, rfl⟩
abbrev main_call0_call1_v14 : Ref sig .tc := ⟨.hbm, 54, rfl⟩
abbrev main_call0_v7 : Ref sig .tc := ⟨.hbm, 55, rfl⟩
abbrev main_call0_v8 : Ref sig .tc := ⟨.hbm, 56, rfl⟩
abbrev main_call0_call2_c : Ref sig .tc := ⟨.hbm, 57, rfl⟩
abbrev main_call0_call2_v0 : Ref sig .tc := ⟨.hbm, 58, rfl⟩
abbrev main_call0_call2_v1 : Ref sig .tc := ⟨.hbm, 59, rfl⟩
abbrev main_call0_call2_c_0 : Ref sig .tc := ⟨.hbm, 60, rfl⟩
abbrev main_call0_call2_v2 : Ref sig .tc := ⟨.hbm, 61, rfl⟩
abbrev main_call0_call2_v3 : Ref sig .tc := ⟨.hbm, 62, rfl⟩
abbrev main_call0_call2_v4 : Ref sig .tc := ⟨.hbm, 63, rfl⟩
abbrev main_call0_call2_v5 : Ref sig .tc := ⟨.hbm, 64, rfl⟩
abbrev main_call0_call2_c_1 : Ref sig .tc := ⟨.hbm, 65, rfl⟩
abbrev main_call0_call2_c_2 : Ref sig .tc := ⟨.hbm, 66, rfl⟩
abbrev main_call0_call2_v6 : Ref sig .tc := ⟨.hbm, 67, rfl⟩
abbrev main_call0_call2_v7 : Ref sig .tc := ⟨.hbm, 68, rfl⟩
abbrev main_call0_call2_v8 : Ref sig .tc := ⟨.hbm, 69, rfl⟩
abbrev main_call0_call2_v9 : Ref sig .tc := ⟨.hbm, 70, rfl⟩
abbrev main_call0_call2_v10 : Ref sig .tc := ⟨.hbm, 71, rfl⟩
abbrev main_call0_call2_v11 : Ref sig .tc := ⟨.hbm, 72, rfl⟩
abbrev main_call0_call2_c_3 : Ref sig .tc := ⟨.hbm, 73, rfl⟩
abbrev main_call0_call2_v12 : Ref sig .tc := ⟨.hbm, 74, rfl⟩
abbrev main_call0_call2_v13 : Ref sig .tc := ⟨.hbm, 75, rfl⟩
abbrev main_call0_call2_v14 : Ref sig .tc := ⟨.hbm, 76, rfl⟩
abbrev main_call0_call2_cst : Ref sig .tc := ⟨.hbm, 77, rfl⟩
abbrev main_call0_call2_v15 : Ref sig .tc := ⟨.hbm, 78, rfl⟩
abbrev main_v0_0 : Ref sig .tc := ⟨.hbm, 79, rfl⟩
abbrev main_call0_v10 : Ref sig .tc := ⟨.hbm, 80, rfl⟩
abbrev main_call0_call3_c : Ref sig .tc := ⟨.hbm, 81, rfl⟩
abbrev main_call0_call3_v0 : Ref sig .tc := ⟨.hbm, 82, rfl⟩
abbrev main_call0_call3_v1 : Ref sig .tc := ⟨.hbm, 83, rfl⟩
abbrev main_call0_call3_c_0 : Ref sig .tc := ⟨.hbm, 84, rfl⟩
abbrev main_call0_call3_v2 : Ref sig .tc := ⟨.hbm, 85, rfl⟩
abbrev main_call0_call3_v3 : Ref sig .tc := ⟨.hbm, 86, rfl⟩
abbrev main_call0_call3_v4 : Ref sig .tc := ⟨.hbm, 87, rfl⟩
abbrev main_call0_call3_c_1 : Ref sig .tc := ⟨.hbm, 88, rfl⟩
abbrev main_call0_call3_c_2 : Ref sig .tc := ⟨.hbm, 89, rfl⟩
abbrev main_call0_call3_v5 : Ref sig .tc := ⟨.hbm, 90, rfl⟩
abbrev main_call0_call3_v6 : Ref sig .tc := ⟨.hbm, 91, rfl⟩
abbrev main_call0_call3_v7 : Ref sig .tc := ⟨.hbm, 92, rfl⟩
abbrev main_call0_call3_v8 : Ref sig .tc := ⟨.hbm, 93, rfl⟩
abbrev main_call0_call3_v9 : Ref sig .tc := ⟨.hbm, 94, rfl⟩
abbrev main_call0_call3_v10 : Ref sig .tc := ⟨.hbm, 95, rfl⟩
abbrev main_call0_call3_c_3 : Ref sig .tc := ⟨.hbm, 96, rfl⟩
abbrev main_call0_call3_v11 : Ref sig .tc := ⟨.hbm, 97, rfl⟩
abbrev main_call0_call3_v12 : Ref sig .tc := ⟨.hbm, 98, rfl⟩
abbrev main_call0_call3_v13 : Ref sig .tc := ⟨.hbm, 99, rfl⟩
abbrev main_call0_call3_cst : Ref sig .tc := ⟨.hbm, 100, rfl⟩
abbrev main_call0_call3_v14 : Ref sig .tc := ⟨.hbm, 101, rfl⟩
abbrev main_call0_v11 : Ref sig .tc := ⟨.hbm, 102, rfl⟩
abbrev main_call0_call4_c : Ref sig .tc := ⟨.hbm, 103, rfl⟩
abbrev main_call0_call4_v0 : Ref sig .tc := ⟨.hbm, 104, rfl⟩
abbrev main_call0_call4_v1 : Ref sig .tc := ⟨.hbm, 105, rfl⟩
abbrev main_call0_call4_c_0 : Ref sig .tc := ⟨.hbm, 106, rfl⟩
abbrev main_call0_call4_v2 : Ref sig .tc := ⟨.hbm, 107, rfl⟩
abbrev main_call0_call4_v3 : Ref sig .tc := ⟨.hbm, 108, rfl⟩
abbrev main_call0_call4_v4 : Ref sig .tc := ⟨.hbm, 109, rfl⟩
abbrev main_call0_call4_v5 : Ref sig .tc := ⟨.hbm, 110, rfl⟩
abbrev main_call0_call4_c_1 : Ref sig .tc := ⟨.hbm, 111, rfl⟩
abbrev main_call0_call4_c_2 : Ref sig .tc := ⟨.hbm, 112, rfl⟩
abbrev main_call0_call4_v6 : Ref sig .tc := ⟨.hbm, 113, rfl⟩
abbrev main_call0_call4_v7 : Ref sig .tc := ⟨.hbm, 114, rfl⟩
abbrev main_call0_call4_v8 : Ref sig .tc := ⟨.hbm, 115, rfl⟩
abbrev main_call0_call4_v9 : Ref sig .tc := ⟨.hbm, 116, rfl⟩
abbrev main_call0_call4_v10 : Ref sig .tc := ⟨.hbm, 117, rfl⟩
abbrev main_call0_call4_v11 : Ref sig .tc := ⟨.hbm, 118, rfl⟩
abbrev main_call0_call4_c_3 : Ref sig .tc := ⟨.hbm, 119, rfl⟩
abbrev main_call0_call4_v12 : Ref sig .tc := ⟨.hbm, 120, rfl⟩
abbrev main_call0_call4_v13 : Ref sig .tc := ⟨.hbm, 121, rfl⟩
abbrev main_call0_call4_c_4 : Ref sig .tc := ⟨.hbm, 122, rfl⟩
abbrev main_call0_call4_v14 : Ref sig .tc := ⟨.hbm, 123, rfl⟩
abbrev main_call0_v12 : Ref sig .tc := ⟨.hbm, 124, rfl⟩
abbrev main_call0_c_3 : Ref sig .tc := ⟨.hbm, 125, rfl⟩
abbrev main_call0_v13 : Ref sig .tc := ⟨.hbm, 126, rfl⟩
abbrev main_call0_c_4 : Ref sig .tc := ⟨.hbm, 127, rfl⟩
abbrev main_call0_v14 : Ref sig .tc := ⟨.hbm, 128, rfl⟩
abbrev main_call0_v15 : Ref sig .tc := ⟨.hbm, 129, rfl⟩
abbrev main_v0_2 : Ref sig .tc := ⟨.hbm, 130, rfl⟩
abbrev main_call0_v17 : Ref sig .tc := ⟨.hbm, 131, rfl⟩
abbrev main_call0_c_5 : Ref sig .tc := ⟨.hbm, 132, rfl⟩
abbrev main_call0_v18 : Ref sig .tc := ⟨.hbm, 133, rfl⟩
abbrev main_call0_v19 : Ref sig .tc := ⟨.hbm, 134, rfl⟩
abbrev main_call0_call5_v0 : Ref sig .tc := ⟨.hbm, 135, rfl⟩
abbrev main_call0_call5_v1 : Ref sig .tc := ⟨.hbm, 136, rfl⟩
abbrev main_call0_v20 : Ref sig .tc := ⟨.hbm, 137, rfl⟩
abbrev main_call0_c_6 : Ref sig .tc := ⟨.hbm, 138, rfl⟩
abbrev main_call0_v21 : Ref sig .tc := ⟨.hbm, 139, rfl⟩
abbrev main_call0_v22 : Ref sig .tc := ⟨.hbm, 140, rfl⟩
abbrev main_call0_c_7 : Ref sig .tc := ⟨.hbm, 141, rfl⟩
abbrev main_call0_v23 : Ref sig .tc := ⟨.hbm, 142, rfl⟩
abbrev main_call0_v24 : Ref sig .tc := ⟨.hbm, 143, rfl⟩
abbrev main_call0_call6_v0 : Ref sig .tc := ⟨.hbm, 144, rfl⟩
abbrev main_call0_call6_call0_c : Ref sig .tc := ⟨.hbm, 145, rfl⟩
abbrev main_call0_call6_call0_v0 : Ref sig .tc := ⟨.hbm, 146, rfl⟩
abbrev main_call0_v25 : Ref sig .tc := ⟨.hbm, 147, rfl⟩
abbrev main_call0_c_8 : Ref sig .tc := ⟨.hbm, 148, rfl⟩
abbrev main_call0_v26 : Ref sig .tc := ⟨.hbm, 149, rfl⟩
abbrev main_call0_c_9 : Ref sig .tc := ⟨.hbm, 150, rfl⟩
abbrev main_call0_v27 : Ref sig .tc := ⟨.hbm, 151, rfl⟩
abbrev main_call0_v28 : Ref sig .tc := ⟨.hbm, 152, rfl⟩
abbrev main_call0_c_10 : Ref sig .tc := ⟨.hbm, 153, rfl⟩
abbrev main_call0_v29 : Ref sig .tc := ⟨.hbm, 154, rfl⟩
abbrev main_call0_v30 : Ref sig .tc := ⟨.hbm, 155, rfl⟩
abbrev main_call0_v31 : Ref sig .tc := ⟨.hbm, 156, rfl⟩
abbrev main_call0_v32 : Ref sig .tc := ⟨.hbm, 157, rfl⟩
abbrev main_call0_c_11 : Ref sig .tc := ⟨.hbm, 158, rfl⟩
abbrev main_call0_v33 : Ref sig .tc := ⟨.hbm, 159, rfl⟩
abbrev main_call0_v34 : Ref sig .tc := ⟨.hbm, 160, rfl⟩
abbrev main_call0_call7_call0_c : Ref sig .tc := ⟨.hbm, 161, rfl⟩
abbrev main_call0_call7_call0_v0 : Ref sig .tc := ⟨.hbm, 162, rfl⟩
abbrev main_call0_v35 : Ref sig .tc := ⟨.hbm, 163, rfl⟩
abbrev main_call0_c_12 : Ref sig .tc := ⟨.hbm, 164, rfl⟩
abbrev main_call0_v36 : Ref sig .tc := ⟨.hbm, 165, rfl⟩
abbrev main_call0_v37 : Ref sig .tc := ⟨.hbm, 166, rfl⟩
abbrev main_call0_call8_c : Ref sig .tc := ⟨.hbm, 167, rfl⟩
abbrev main_call0_call8_v0 : Ref sig .tc := ⟨.hbm, 168, rfl⟩
abbrev main_call0_call8_v1 : Ref sig .tc := ⟨.hbm, 169, rfl⟩
abbrev main_call0_call8_c_0 : Ref sig .tc := ⟨.hbm, 170, rfl⟩
abbrev main_call0_call8_v2 : Ref sig .tc := ⟨.hbm, 171, rfl⟩
abbrev main_call0_call8_v3 : Ref sig .tc := ⟨.hbm, 172, rfl⟩
abbrev main_call0_call8_v4 : Ref sig .tc := ⟨.hbm, 173, rfl⟩
abbrev main_call0_call8_v5 : Ref sig .tc := ⟨.hbm, 174, rfl⟩
abbrev main_call0_call8_c_1 : Ref sig .tc := ⟨.hbm, 175, rfl⟩
abbrev main_call0_call8_c_2 : Ref sig .tc := ⟨.hbm, 176, rfl⟩
abbrev main_call0_call8_v6 : Ref sig .tc := ⟨.hbm, 177, rfl⟩
abbrev main_call0_call8_v7 : Ref sig .tc := ⟨.hbm, 178, rfl⟩
abbrev main_call0_call8_v8 : Ref sig .tc := ⟨.hbm, 179, rfl⟩
abbrev main_call0_call8_v9 : Ref sig .tc := ⟨.hbm, 180, rfl⟩
abbrev main_call0_call8_v10 : Ref sig .tc := ⟨.hbm, 181, rfl⟩
abbrev main_call0_call8_v11 : Ref sig .tc := ⟨.hbm, 182, rfl⟩
abbrev main_call0_call8_c_3 : Ref sig .tc := ⟨.hbm, 183, rfl⟩
abbrev main_call0_call8_v12 : Ref sig .tc := ⟨.hbm, 184, rfl⟩
abbrev main_call0_call8_v13 : Ref sig .tc := ⟨.hbm, 185, rfl⟩
abbrev main_call0_call8_c_4 : Ref sig .tc := ⟨.hbm, 186, rfl⟩
abbrev main_call0_call8_v14 : Ref sig .tc := ⟨.hbm, 187, rfl⟩
abbrev main_v0_4 : Ref sig .tc := ⟨.hbm, 188, rfl⟩
abbrev main_call0_v39 : Ref sig .tc := ⟨.hbm, 189, rfl⟩
abbrev main_call0_v40 : Ref sig .tc := ⟨.hbm, 190, rfl⟩
abbrev main_v0_3 : Ref sig .tc := ⟨.hbm, 191, rfl⟩
abbrev main_call0_v41_1 : Ref sig .tc := ⟨.hbm, 192, rfl⟩
abbrev main_v0_1 : Ref sig .tc := ⟨.hbm, 193, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S6x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x20000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x20000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x20000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1024], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c256_i32 : BitVec 32 := 256#32
  let v0 : BitVec 32 := Scalar.divsi arg0 c256_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c256_i32 c0_i32_1
  let v7 : BitVec 32 := Scalar.extui v6
  let c0_i32_2 : BitVec 32 := 0#32
  let v8 : BitVec 1 := Scalar.cmpi .slt c256_i32 c0_i32_2
  let v9 : BitVec 32 := Scalar.extui v8
  let v10 : BitVec 32 := Scalar.subi v7 v9
  let v11 : BitVec 1 := Scalar.cmpi .ne v5 v10
  let v12 : BitVec 32 := Scalar.remsi arg0 c256_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x28x28x28 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x6 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "inv27" => some ((27⁻¹ : ℝ) : EReal)
  | _ => none
-- ==== ReferenceIdeal.lean ====
abbrev S20000x6 : Shape := ⟨2, ![20000, 6]⟩
abbrev S20000 : Shape := ⟨1, ![20000]⟩
abbrev S4x8x6 : Shape := ⟨3, ![4, 8, 6]⟩
abbrev S4x8 : Shape := ⟨2, ![4, 8]⟩
abbrev S4x64x64x64 : Shape := ⟨4, ![4, 64, 64, 64]⟩
abbrev S4 : Shape := ⟨1, ![4]⟩
abbrev S1x20000 : Shape := ⟨2, ![1, 20000]⟩
abbrev S4x1 : Shape := ⟨2, ![4, 1]⟩
abbrev S4x20000 : Shape := ⟨2, ![4, 20000]⟩
abbrev S4x8x1x6 : Shape := ⟨4, ![4, 8, 1, 6]⟩
abbrev S1x20000x6 : Shape := ⟨3, ![1, 20000, 6]⟩
abbrev S4x8x1x1 : Shape := ⟨4, ![4, 8, 1, 1]⟩
abbrev S4x8x1 : Shape := ⟨3, ![4, 8, 1]⟩
abbrev S1x20000x1 : Shape := ⟨3, ![1, 20000, 1]⟩
abbrev S1x1x20000 : Shape := ⟨3, ![1, 1, 20000]⟩
abbrev S4x8x20000 : Shape := ⟨3, ![4, 8, 20000]⟩
abbrev S_ : Shape := ⟨0, ![]⟩
abbrev S4x1x20000 : Shape := ⟨3, ![4, 1, 20000]⟩
abbrev S8x20000 : Shape := ⟨2, ![8, 20000]⟩
abbrev S4x160000 : Shape := ⟨2, ![4, 160000]⟩
abbrev S4x64 : Shape := ⟨2, ![4, 64]⟩
abbrev S4x192 : Shape := ⟨2, ![4, 192]⟩
abbrev S4x256 : Shape := ⟨2, ![4, 256]⟩
abbrev S4x256x1 : Shape := ⟨3, ![4, 256, 1]⟩
abbrev S1 : Shape := ⟨1, ![1]⟩
abbrev S1x1x1 : Shape := ⟨3, ![1, 1, 1]⟩
abbrev S4x256x6 : Shape := ⟨3, ![4, 256, 6]⟩
abbrev S192 : Shape := ⟨1, ![192]⟩
abbrev S4x256x3 : Shape := ⟨3, ![4, 256, 3]⟩
abbrev S27 : Shape := ⟨1, ![27]⟩
abbrev S27x1 : Shape := ⟨2, ![27, 1]⟩
abbrev S4x256x1x3 : Shape := ⟨4, ![4, 256, 1, 3]⟩
abbrev S1x27x1 : Shape := ⟨3, ![1, 27, 1]⟩
abbrev S1x1x27x1 : Shape := ⟨4, ![1, 1, 27, 1]⟩
abbrev S4x256x27x3 : Shape := ⟨4, ![4, 256, 27, 3]⟩
abbrev S4x256x28x3 : Shape := ⟨4, ![4, 256, 28, 3]⟩
abbrev S2 : Shape := ⟨1, ![2]⟩
abbrev S2x1x1 : Shape := ⟨3, ![2, 1, 1]⟩
abbrev S4x256x1x28x3 : Shape := ⟨5, ![4, 256, 1, 28, 3]⟩
abbrev S1x2x1x1 : Shape := ⟨4, ![1, 2, 1, 1]⟩
abbrev S1x1x2x1x1 : Shape := ⟨5, ![1, 1, 2, 1, 1]⟩
abbrev S4x256x2x28x3 : Shape := ⟨5, ![4, 256, 2, 28, 3]⟩
abbrev S2x28x3 : Shape := ⟨3, ![2, 28, 3]⟩
abbrev S256x2x28x3 : Shape := ⟨4, ![256, 2, 28, 3]⟩
abbrev S4x256x2x28x1 : Shape := ⟨5, ![4, 256, 2, 28, 1]⟩
abbrev S4x256x2x28 : Shape := ⟨4, ![4, 256, 2, 28]⟩
abbrev S4x256x2x1x1x28x1x1 : Shape := ⟨8, ![4, 256, 2, 1, 1, 28, 1, 1]⟩
abbrev S4x256x1x2x1x1x28x1 : Shape := ⟨8, ![4, 256, 1, 2, 1, 1, 28, 1]⟩
abbrev S4x256x1x1x2x1x1x28 : Shape := ⟨8, ![4, 256, 1, 1, 2, 1, 1, 28]⟩
abbrev S4x256x2x2x1x28x28x1 : Shape := ⟨8, ![4, 256, 2, 2, 1, 28, 28, 1]⟩
abbrev S4x256x2x2x2x28x28x28 : Shape := ⟨8, ![4, 256, 2, 2, 2, 28, 28, 28]⟩
abbrev S4x256x2x2x2x28x28x28x1 : Shape := ⟨9, ![4, 256, 2, 2, 2, 28, 28, 28, 1]⟩
abbrev S4x256x2x2x2x28x28x28x3 : Shape := ⟨9, ![4, 256, 2, 2, 2, 28, 28, 28, 3]⟩
abbrev S4x256x2x2x28x28x28 : Shape := ⟨7, ![4, 256, 2, 2, 28, 28, 28]⟩
abbrev S4x256x2x28x28x28 : Shape := ⟨6, ![4, 256, 2, 28, 28, 28]⟩
abbrev S4x256x28x28x28 : Shape := ⟨5, ![4, 256, 28, 28, 28]⟩
abbrev S1024x6 : Shape := ⟨2, ![1024, 6]⟩
abbrev S1024 : Shape := ⟨1, ![1024]⟩
abbrev S1024x28x28x28 : Shape := ⟨4, ![1024, 28, 28, 28]⟩

abbrev nBuf : Space → Nat
  | .hbm => 521
  | .vmem => 0
  | .smem => 0
  | _ => 0

abbrev hbmTy0_0 (i : Nat) : BufTy := match i % 128 with
  | 0 => ⟨S20000x6, .f32⟩
  | 1 => ⟨S20000, .i32⟩
  | 2 => ⟨S4x8x6, .f32⟩
  | 3 => ⟨S4x8, .i32⟩
  | 4 => ⟨S4x64x64x64, .f32⟩
  | 5 => ⟨S4, .i32⟩
  | 6 => ⟨S1x20000, .i32⟩
  | 7 => ⟨S4x1, .i32⟩
  | 8 => ⟨S4x20000, .i32⟩
  | 9 => ⟨S4x20000, .i32⟩
  | 10 => ⟨S4x20000, .i1⟩
  | 11 => ⟨S4x8x1x6, .f32⟩
  | 12 => ⟨S1x20000x6, .f32⟩
  | 13 => ⟨S4x8x1x1, .f32⟩
  | 14 => ⟨S4x8x1, .f32⟩
  | 15 => ⟨S1x20000x1, .f32⟩
  | 16 => ⟨S1x20000, .f32⟩
  | 17 => ⟨S1x1x20000, .f32⟩
  | 18 => ⟨S4x8x20000, .f32⟩
  | 19 => ⟨S4x8x20000, .f32⟩
  | 20 => ⟨S4x8x20000, .f32⟩
  | 21 => ⟨S4x8x1x1, .f32⟩
  | 22 => ⟨S4x8x1, .f32⟩
  | 23 => ⟨S1x20000x1, .f32⟩
  | 24 => ⟨S1x20000, .f32⟩
  | 25 => ⟨S1x1x20000, .f32⟩
  | 26 => ⟨S4x8x20000, .f32⟩
  | 27 => ⟨S4x8x20000, .f32⟩
  | 28 => ⟨S4x8x20000, .f32⟩
  | 29 => ⟨S4x8x20000, .f32⟩
  | 30 => ⟨S_, .f32⟩
  | 31 => ⟨S_, .f32⟩
  | 32 => ⟨S4x8x20000, .f32⟩
  | 33 => ⟨S4x8x20000, .f32⟩
  | 34 => ⟨S4x8x1x1, .f32⟩
  | 35 => ⟨S4x8x1, .f32⟩
  | 36 => ⟨S1x20000x1, .f32⟩
  | 37 => ⟨S1x20000, .f32⟩
  | 38 => ⟨S1x1x20000, .f32⟩
  | 39 => ⟨S4x8x20000, .f32⟩
  | 40 => ⟨S4x8x20000, .f32⟩
  | 41 => ⟨S4x8x20000, .f32⟩
  | 42 => ⟨S4x8x1x1, .f32⟩
  | 43 => ⟨S4x8x1, .f32⟩
  | 44 => ⟨S1x20000x1, .f32⟩
  | 45 => ⟨S1x20000, .f32⟩
  | 46 => ⟨S1x1x20000, .f32⟩
  | 47 => ⟨S4x8x20000, .f32⟩
  | 48 => ⟨S4x8x20000, .f32⟩
  | 49 => ⟨S4x8x20000, .f32⟩
  | 50 => ⟨S4x8x20000, .f32⟩
  | 51 => ⟨S_, .f32⟩
  | 52 => ⟨S_, .f32⟩
  | 53 => ⟨S4x8x20000, .f32⟩
  | 54 => ⟨S4x8x20000, .f32⟩
  | 55 => ⟨S4x8x1x1, .f32⟩
  | 56 => ⟨S4x8x1, .f32⟩
  | 57 => ⟨S1x20000x1, .f32⟩
  | 58 => ⟨S1x20000, .f32⟩
  | 59 => ⟨S1x1x20000, .f32⟩
  | 60 => ⟨S4x8x20000, .f32⟩
  | 61 => ⟨S4x8x20000, .f32⟩
  | 62 => ⟨S4x8x20000, .f32⟩
  | 63 => ⟨S4x8x1x1, .f32⟩
  | 64 => ⟨S4x8x1, .f32⟩
  | 65 => ⟨S1x20000x1, .f32⟩
  | 66 => ⟨S1x20000, .f32⟩
  | 67 => ⟨S1x1x20000, .f32⟩
  | 68 => ⟨S4x8x20000, .f32⟩
  | 69 => ⟨S4x8x20000, .f32⟩
  | 70 => ⟨S4x8x20000, .f32⟩
  | 71 => ⟨S4x8x20000, .f32⟩
  | 72 => ⟨S_, .f32⟩
  | 73 => ⟨S_, .f32⟩
  | 74 => ⟨S4x8x20000, .f32⟩
  | 75 => ⟨S4x8x20000, .f32⟩
  | 76 => ⟨S4x8x20000, .f32⟩
  | 77 => ⟨S4x8x20000, .f32⟩
  | 78 => ⟨S4x8x1x1, .f32⟩
  | 79 => ⟨S4x8x1, .f32⟩
  | 80 => ⟨S4x8x1x1, .f32⟩
  | 81 => ⟨S4x8x1, .f32⟩
  | 82 => ⟨S4x8x1, .f32⟩
  | 83 => ⟨S4x8x1x1, .f32⟩
  | 84 => ⟨S4x8x1, .f32⟩
  | 85 => ⟨S4x8x1x1, .f32⟩
  | 86 => ⟨S4x8x1, .f32⟩
  | 87 => ⟨S4x8x1, .f32⟩
  | 88 => ⟨S4x8x1, .f32⟩
  | 89 => ⟨S4x8x1x1, .f32⟩
  | 90 => ⟨S4x8x1, .f32⟩
  | 91 => ⟨S4x8x1x1, .f32⟩
  | 92 => ⟨S4x8x1, .f32⟩
  | 93 => ⟨S4x8x1, .f32⟩
  | 94 => ⟨S4x8x1, .f32⟩
  | 95 => ⟨S1x20000x1, .f32⟩
  | 96 => ⟨S1x20000, .f32⟩
  | 97 => ⟨S1x20000x1, .f32⟩
  | 98 => ⟨S1x20000, .f32⟩
  | 99 => ⟨S1x20000, .f32⟩
  | 100 => ⟨S1x20000x1, .f32⟩
  | 101 => ⟨S1x20000, .f32⟩
  | 102 => ⟨S1x20000x1, .f32⟩
  | 103 => ⟨S1x20000, .f32⟩
  | 104 => ⟨S1x20000, .f32⟩
  | 105 => ⟨S1x20000, .f32⟩
  | 106 => ⟨S1x20000x1, .f32⟩
  | 107 => ⟨S1x20000, .f32⟩
  | 108 => ⟨S1x20000x1, .f32⟩
  | 109 => ⟨S1x20000, .f32⟩
  | 110 => ⟨S1x20000, .f32⟩
  | 111 => ⟨S1x20000, .f32⟩
  | 112 => ⟨S1x1x20000, .f32⟩
  | 113 => ⟨S4x8x20000, .f32⟩
  | 114 => ⟨S4x8x20000, .f32⟩
  | 115 => ⟨S4x8x20000, .f32⟩
  | 116 => ⟨S4x8x20000, .f32⟩
  | 117 => ⟨S_, .f32⟩
  | 118 => ⟨S4x8x20000, .f32⟩
  | 119 => ⟨S4x8x20000, .f32⟩
  | 120 => ⟨S4x8x20000, .f32⟩
  | 121 => ⟨S4x1x20000, .i1⟩
  | 122 => ⟨S_, .f32⟩
  | 123 => ⟨S_, .f32⟩
  | 124 => ⟨S4x8x20000, .i1⟩
  | 125 => ⟨S8x20000, .f32⟩
  | 126 => ⟨S4x8x20000, .f32⟩
  | 127 => ⟨S4x8x20000, .f32⟩
  | _ => ⟨S20000x6, .f32⟩

abbrev hbmTy0_1 (i : Nat) : BufTy := match i % 128 with
  | 0 => ⟨S_, .f32⟩
  | 1 => ⟨S4x20000, .f32⟩
  | 2 => ⟨S4x1x20000, .f32⟩
  | 3 => ⟨S4x8x20000, .f32⟩
  | 4 => ⟨S4x8x20000, .i1⟩
  | 5 => ⟨S4x1x20000, .i1⟩
  | 6 => ⟨S4x8x20000, .i1⟩
  | 7 => ⟨S4x8x20000, .i1⟩
  | 8 => ⟨S_, .f32⟩
  | 9 => ⟨S4x8x20000, .f32⟩
  | 10 => ⟨S4x8x20000, .i1⟩
  | 11 => ⟨S4x8x20000, .i1⟩
  | 12 => ⟨S_, .f32⟩
  | 13 => ⟨S4x8x20000, .f32⟩
  | 14 => ⟨S4x8x20000, .i1⟩
  | 15 => ⟨S4x8x20000, .i1⟩
  | 16 => ⟨S_, .f32⟩
  | 17 => ⟨S4x8x20000, .f32⟩
  | 18 => ⟨S4x8x20000, .i1⟩
  | 19 => ⟨S4x8x20000, .i1⟩
  | 20 => ⟨S_, .f32⟩
  | 21 => ⟨S_, .f32⟩
  | 22 => ⟨S8x20000, .f32⟩
  | 23 => ⟨S4x8x20000, .f32⟩
  | 24 => ⟨S4x8x20000, .f32⟩
  | 25 => ⟨S4x160000, .f32⟩
  | 26 => ⟨S4x64, .f32⟩
  | 27 => ⟨S4x64, .i32⟩
  | 28 => ⟨S4x8x20000, .f32⟩
  | 29 => ⟨S_, .f32⟩
  | 30 => ⟨S_, .f32⟩
  | 31 => ⟨S8x20000, .f32⟩
  | 32 => ⟨S4x8x20000, .f32⟩
  | 33 => ⟨S4x8x20000, .f32⟩
  | 34 => ⟨S4x160000, .f32⟩
  | 35 => ⟨S4x192, .f32⟩
  | 36 => ⟨S4x192, .i32⟩
  | 37 => ⟨S4x256, .i32⟩
  | 38 => ⟨S_, .i32⟩
  | 39 => ⟨S_, .i32⟩
  | 40 => ⟨S4x256, .i32⟩
  | 41 => ⟨S4x256, .i32⟩
  | 42 => ⟨S4x256, .i32⟩
  | 43 => ⟨S_, .i32⟩
  | 44 => ⟨S4x256, .i32⟩
  | 45 => ⟨S4x256, .i1⟩
  | 46 => ⟨S4x256, .i32⟩
  | 47 => ⟨S4x256, .i32⟩
  | 48 => ⟨S_, .i32⟩
  | 49 => ⟨S4x256, .i32⟩
  | 50 => ⟨S4x256, .i1⟩
  | 51 => ⟨S4x256, .i1⟩
  | 52 => ⟨S_, .i32⟩
  | 53 => ⟨S4x256, .i32⟩
  | 54 => ⟨S4x256, .i32⟩
  | 55 => ⟨S4x256, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S4x256, .i32⟩
  | 63 => ⟨S4x256, .i32⟩
  | 64 => ⟨S_, .i32⟩
  | 65 => ⟨S4x256, .i32⟩
  | 66 => ⟨S4x256, .i1⟩
  | 67 => ⟨S_, .i32⟩
  | 68 => ⟨S4x256, .i32⟩
  | 69 => ⟨S4x256, .i1⟩
  | 70 => ⟨S_, .i32⟩
  | 71 => ⟨S_, .i1⟩
  | 72 => ⟨S4x256, .i1⟩
  | 73 => ⟨S4x256, .i1⟩
  | 74 => ⟨S4x256, .i1⟩
  | 75 => ⟨S4x256, .i32⟩
  | 76 => ⟨S4x256, .i32⟩
  | 77 => ⟨S4x256, .i32⟩
  | 78 => ⟨S_, .i32⟩
  | 79 => ⟨S4x256, .i32⟩
  | 80 => ⟨S4x256, .i1⟩
  | 81 => ⟨S_, .i32⟩
  | 82 => ⟨S4x256, .i32⟩
  | 83 => ⟨S4x256, .i32⟩
  | 84 => ⟨S4x256, .i32⟩
  | 85 => ⟨S4x256x1, .i32⟩
  | 86 => ⟨S1, .i32⟩
  | 87 => ⟨S_, .i32⟩
  | 88 => ⟨S4x256x1, .i32⟩
  | 89 => ⟨S4x256x1, .i1⟩
  | 90 => ⟨S1x1x1, .i32⟩
  | 91 => ⟨S4x256x1, .i32⟩
  | 92 => ⟨S4x256x1, .i1⟩
  | 93 => ⟨S4x256x1, .i1⟩
  | 94 => ⟨S_, .i1⟩
  | 95 => ⟨S4x256, .i1⟩
  | 96 => ⟨S4x256x6, .f32⟩
  | 97 => ⟨S4x256x6, .i1⟩
  | 98 => ⟨S_, .f32⟩
  | 99 => ⟨S4x256x6, .f32⟩
  | 100 => ⟨S4x256x6, .f32⟩
  | 101 => ⟨S_, .i32⟩
  | 102 => ⟨S4x256, .i32⟩
  | 103 => ⟨S4x256, .i1⟩
  | 104 => ⟨S_, .i32⟩
  | 105 => ⟨S4x256, .i32⟩
  | 106 => ⟨S4x256, .i32⟩
  | 107 => ⟨S4x256, .i32⟩
  | 108 => ⟨S4x256x1, .i32⟩
  | 109 => ⟨S1, .i32⟩
  | 110 => ⟨S_, .i32⟩
  | 111 => ⟨S4x256x1, .i32⟩
  | 112 => ⟨S4x256x1, .i1⟩
  | 113 => ⟨S1x1x1, .i32⟩
  | 114 => ⟨S4x256x1, .i32⟩
  | 115 => ⟨S4x256x1, .i1⟩
  | 116 => ⟨S4x256x1, .i1⟩
  | 117 => ⟨S_, .i1⟩
  | 118 => ⟨S4x256, .i1⟩
  | 119 => ⟨S4x256x6, .f32⟩
  | 120 => ⟨S4x256x6, .i1⟩
  | 121 => ⟨S_, .f32⟩
  | 122 => ⟨S4x256x6, .f32⟩
  | 123 => ⟨S4x256x6, .f32⟩
  | 124 => ⟨S_, .i32⟩
  | 125 => ⟨S4x256, .i32⟩
  | 126 => ⟨S4x256, .i1⟩
  | 127 => ⟨S_, .i32⟩
  | _ => ⟨S20000x6, .f32⟩

abbrev hbmTy0_2 (i : Nat) : BufTy := match i % 128 with
  | 0 => ⟨S4x256, .i32⟩
  | 1 => ⟨S4x256, .i32⟩
  | 2 => ⟨S4x256, .i32⟩
  | 3 => ⟨S4x256x1, .i32⟩
  | 4 => ⟨S1, .i32⟩
  | 5 => ⟨S_, .i32⟩
  | 6 => ⟨S4x256x1, .i32⟩
  | 7 => ⟨S4x256x1, .i1⟩
  | 8 => ⟨S1x1x1, .i32⟩
  | 9 => ⟨S4x256x1, .i32⟩
  | 10 => ⟨S4x256x1, .i1⟩
  | 11 => ⟨S4x256x1, .i1⟩
  | 12 => ⟨S_, .i1⟩
  | 13 => ⟨S4x256, .i1⟩
  | 14 => ⟨S4x256, .i32⟩
  | 15 => ⟨S_, .i32⟩
  | 16 => ⟨S4x256, .i32⟩
  | 17 => ⟨S4x256, .i32⟩
  | 18 => ⟨S_, .i32⟩
  | 19 => ⟨S1, .i32⟩
  | 20 => ⟨S_, .i32⟩
  | 21 => ⟨S192, .i32⟩
  | 22 => ⟨S4x192, .i32⟩
  | 23 => ⟨S4x256, .i32⟩
  | 24 => ⟨S4x256x1, .f32⟩
  | 25 => ⟨S4x256, .f32⟩
  | 26 => ⟨S4x256x1, .f32⟩
  | 27 => ⟨S4x256, .f32⟩
  | 28 => ⟨S4x256, .f32⟩
  | 29 => ⟨S4x256x1, .f32⟩
  | 30 => ⟨S4x256, .f32⟩
  | 31 => ⟨S4x256x1, .f32⟩
  | 32 => ⟨S4x256, .f32⟩
  | 33 => ⟨S4x256, .f32⟩
  | 34 => ⟨S4x256x1, .f32⟩
  | 35 => ⟨S4x256, .f32⟩
  | 36 => ⟨S4x256x1, .f32⟩
  | 37 => ⟨S4x256, .f32⟩
  | 38 => ⟨S4x256, .f32⟩
  | 39 => ⟨S4x256x1, .f32⟩
  | 40 => ⟨S4x256, .f32⟩
  | 41 => ⟨S_, .f32⟩
  | 42 => ⟨S4x256, .f32⟩
  | 43 => ⟨S4x256, .f32⟩
  | 44 => ⟨S4x256, .f32⟩
  | 45 => ⟨S4x256x1, .f32⟩
  | 46 => ⟨S4x256, .f32⟩
  | 47 => ⟨S_, .f32⟩
  | 48 => ⟨S4x256, .f32⟩
  | 49 => ⟨S4x256, .f32⟩
  | 50 => ⟨S4x256, .f32⟩
  | 51 => ⟨S4x256x1, .f32⟩
  | 52 => ⟨S4x256, .f32⟩
  | 53 => ⟨S_, .f32⟩
  | 54 => ⟨S4x256, .f32⟩
  | 55 => ⟨S4x256, .f32⟩
  | 56 => ⟨S4x256, .f32⟩
  | 57 => ⟨S4x256x1, .f32⟩
  | 58 => ⟨S4x256, .f32⟩
  | 59 => ⟨S4x256x1, .f32⟩
  | 60 => ⟨S4x256, .f32⟩
  | 61 => ⟨S4x256, .f32⟩
  | 62 => ⟨S4x256x1, .f32⟩
  | 63 => ⟨S4x256, .f32⟩
  | 64 => ⟨S4x256x1, .f32⟩
  | 65 => ⟨S4x256, .f32⟩
  | 66 => ⟨S4x256, .f32⟩
  | 67 => ⟨S4x256x1, .f32⟩
  | 68 => ⟨S4x256, .f32⟩
  | 69 => ⟨S4x256x1, .f32⟩
  | 70 => ⟨S4x256, .f32⟩
  | 71 => ⟨S4x256, .f32⟩
  | 72 => ⟨S4x256x1, .f32⟩
  | 73 => ⟨S4x256, .f32⟩
  | 74 => ⟨S_, .f32⟩
  | 75 => ⟨S4x256, .f32⟩
  | 76 => ⟨S4x256, .f32⟩
  | 77 => ⟨S4x256, .f32⟩
  | 78 => ⟨S4x256x1, .f32⟩
  | 79 => ⟨S4x256, .f32⟩
  | 80 => ⟨S_, .f32⟩
  | 81 => ⟨S4x256, .f32⟩
  | 82 => ⟨S4x256, .f32⟩
  | 83 => ⟨S4x256, .f32⟩
  | 84 => ⟨S4x256x1, .f32⟩
  | 85 => ⟨S4x256, .f32⟩
  | 86 => ⟨S_, .f32⟩
  | 87 => ⟨S4x256, .f32⟩
  | 88 => ⟨S4x256, .f32⟩
  | 89 => ⟨S4x256, .f32⟩
  | 90 => ⟨S4x256, .f32⟩
  | 91 => ⟨S_, .f32⟩
  | 92 => ⟨S4x256, .f32⟩
  | 93 => ⟨S4x256, .f32⟩
  | 94 => ⟨S4x256, .f32⟩
  | 95 => ⟨S4x256, .f32⟩
  | 96 => ⟨S_, .f32⟩
  | 97 => ⟨S4x256, .f32⟩
  | 98 => ⟨S4x256, .f32⟩
  | 99 => ⟨S4x256, .f32⟩
  | 100 => ⟨S4x256, .f32⟩
  | 101 => ⟨S_, .f32⟩
  | 102 => ⟨S4x256, .f32⟩
  | 103 => ⟨S4x256, .f32⟩
  | 104 => ⟨S4x256, .f32⟩
  | 105 => ⟨S_, .f32⟩
  | 106 => ⟨S4x256, .f32⟩
  | 107 => ⟨S4x256, .f32⟩
  | 108 => ⟨S_, .f32⟩
  | 109 => ⟨S4x256, .f32⟩
  | 110 => ⟨S4x256, .f32⟩
  | 111 => ⟨S4x256, .f32⟩
  | 112 => ⟨S4x256, .f32⟩
  | 113 => ⟨S_, .f32⟩
  | 114 => ⟨S4x256, .f32⟩
  | 115 => ⟨S4x256, .f32⟩
  | 116 => ⟨S_, .f32⟩
  | 117 => ⟨S4x256, .f32⟩
  | 118 => ⟨S4x256, .f32⟩
  | 119 => ⟨S4x256, .f32⟩
  | 120 => ⟨S4x256, .f32⟩
  | 121 => ⟨S_, .f32⟩
  | 122 => ⟨S4x256, .f32⟩
  | 123 => ⟨S4x256, .f32⟩
  | 124 => ⟨S_, .f32⟩
  | 125 => ⟨S4x256, .f32⟩
  | 126 => ⟨S4x256, .f32⟩
  | 127 => ⟨S4x256, .f32⟩
  | _ => ⟨S20000x6, .f32⟩

abbrev hbmTy0_3 (i : Nat) : BufTy := match i % 128 with
  | 0 => ⟨S4x256, .f32⟩
  | 1 => ⟨S4x256x1, .f32⟩
  | 2 => ⟨S4x256x1, .f32⟩
  | 3 => ⟨S4x256x1, .f32⟩
  | 4 => ⟨S4x256x1, .f32⟩
  | 5 => ⟨S4x256x1, .f32⟩
  | 6 => ⟨S4x256x1, .f32⟩
  | 7 => ⟨S4x256x6, .f32⟩
  | 8 => ⟨S4x256x3, .f32⟩
  | 9 => ⟨S4x256x3, .f32⟩
  | 10 => ⟨S4x256x3, .f32⟩
  | 11 => ⟨S_, .f32⟩
  | 12 => ⟨S4x256x3, .f32⟩
  | 13 => ⟨S4x256x3, .f32⟩
  | 14 => ⟨S27, .f32⟩
  | 15 => ⟨S27x1, .f32⟩
  | 16 => ⟨S_, .f32⟩
  | 17 => ⟨S27x1, .f32⟩
  | 18 => ⟨S27x1, .f32⟩
  | 19 => ⟨S4x256x1x3, .f32⟩
  | 20 => ⟨S_, .f32⟩
  | 21 => ⟨S27x1, .f32⟩
  | 22 => ⟨S27x1, .f32⟩
  | 23 => ⟨S1x27x1, .f32⟩
  | 24 => ⟨S1x1x27x1, .f32⟩
  | 25 => ⟨S4x256x27x3, .f32⟩
  | 26 => ⟨S4x256x27x3, .f32⟩
  | 27 => ⟨S4x256x27x3, .f32⟩
  | 28 => ⟨S4x256x1x3, .f32⟩
  | 29 => ⟨S1x27x1, .f32⟩
  | 30 => ⟨S1x1x27x1, .f32⟩
  | 31 => ⟨S4x256x27x3, .f32⟩
  | 32 => ⟨S4x256x27x3, .f32⟩
  | 33 => ⟨S4x256x27x3, .f32⟩
  | 34 => ⟨S4x256x27x3, .f32⟩
  | 35 => ⟨S4x256x1x3, .f32⟩
  | 36 => ⟨S4x256x28x3, .f32⟩
  | 37 => ⟨S_, .f32⟩
  | 38 => ⟨S4x256x28x3, .f32⟩
  | 39 => ⟨S4x256x28x3, .f32⟩
  | 40 => ⟨S4x256x28x3, .f32⟩
  | 41 => ⟨S4x256x28x3, .f32⟩
  | 42 => ⟨S2, .i32⟩
  | 43 => ⟨S2x1x1, .i32⟩
  | 44 => ⟨S4x256x28x3, .i32⟩
  | 45 => ⟨S4x256x1x28x3, .i32⟩
  | 46 => ⟨S1x2x1x1, .i32⟩
  | 47 => ⟨S1x1x2x1x1, .i32⟩
  | 48 => ⟨S4x256x2x28x3, .i32⟩
  | 49 => ⟨S4x256x2x28x3, .i32⟩
  | 50 => ⟨S4x256x2x28x3, .i32⟩
  | 51 => ⟨S_, .i32⟩
  | 52 => ⟨S_, .i32⟩
  | 53 => ⟨S_, .i32⟩
  | 54 => ⟨S4x256x2x28x3, .i32⟩
  | 55 => ⟨S4x256x2x28x3, .i32⟩
  | 56 => ⟨S_, .i32⟩
  | 57 => ⟨S4x256x2x28x3, .i32⟩
  | 58 => ⟨S4x256x2x28x3, .i32⟩
  | 59 => ⟨S_, .i32⟩
  | 60 => ⟨S2x1x1, .i32⟩
  | 61 => ⟨S2x1x1, .i1⟩
  | 62 => ⟨S_, .f32⟩
  | 63 => ⟨S4x256x28x3, .f32⟩
  | 64 => ⟨S4x256x28x3, .f32⟩
  | 65 => ⟨S2x28x3, .i1⟩
  | 66 => ⟨S4x256x2x28x3, .f32⟩
  | 67 => ⟨S4x256x2x28x3, .f32⟩
  | 68 => ⟨S256x2x28x3, .i1⟩
  | 69 => ⟨S4x256x2x28x3, .i1⟩
  | 70 => ⟨S4x256x2x28x3, .f32⟩
  | 71 => ⟨S4x256x2x28x1, .i32⟩
  | 72 => ⟨S4x256x2x28, .i32⟩
  | 73 => ⟨S4x256x2x1x1x28x1x1, .i32⟩
  | 74 => ⟨S4x256x2x28x1, .i32⟩
  | 75 => ⟨S4x256x2x28, .i32⟩
  | 76 => ⟨S4x256x1x2x1x1x28x1, .i32⟩
  | 77 => ⟨S4x256x2x28x1, .i32⟩
  | 78 => ⟨S4x256x2x28, .i32⟩
  | 79 => ⟨S4x256x1x1x2x1x1x28, .i32⟩
  | 80 => ⟨S4x256x2x28x1, .f32⟩
  | 81 => ⟨S4x256x2x28, .f32⟩
  | 82 => ⟨S4x256x2x1x1x28x1x1, .f32⟩
  | 83 => ⟨S4x256x2x28x1, .f32⟩
  | 84 => ⟨S4x256x2x28, .f32⟩
  | 85 => ⟨S4x256x1x2x1x1x28x1, .f32⟩
  | 86 => ⟨S4x256x2x28x1, .f32⟩
  | 87 => ⟨S4x256x2x28, .f32⟩
  | 88 => ⟨S4x256x1x1x2x1x1x28, .f32⟩
  | 89 => ⟨S4x256x2x2x1x28x28x1, .f32⟩
  | 90 => ⟨S4x256x2x2x1x28x28x1, .f32⟩
  | 91 => ⟨S4x256x2x2x1x28x28x1, .f32⟩
  | 92 => ⟨S4x256x2x2x2x28x28x28, .f32⟩
  | 93 => ⟨S4x256x2x2x2x28x28x28, .f32⟩
  | 94 => ⟨S4x256x2x2x2x28x28x28, .f32⟩
  | 95 => ⟨S_, .i32⟩
  | 96 => ⟨S4x256x2x1x1x28x1x1, .i32⟩
  | 97 => ⟨S4x256x2x1x1x28x1x1, .i1⟩
  | 98 => ⟨S_, .i32⟩
  | 99 => ⟨S4x256x2x1x1x28x1x1, .i32⟩
  | 100 => ⟨S4x256x2x1x1x28x1x1, .i32⟩
  | 101 => ⟨S4x256x2x1x1x28x1x1, .i32⟩
  | 102 => ⟨S_, .i32⟩
  | 103 => ⟨S4x256x1x2x1x1x28x1, .i32⟩
  | 104 => ⟨S4x256x1x2x1x1x28x1, .i1⟩
  | 105 => ⟨S_, .i32⟩
  | 106 => ⟨S4x256x1x2x1x1x28x1, .i32⟩
  | 107 => ⟨S4x256x1x2x1x1x28x1, .i32⟩
  | 108 => ⟨S4x256x1x2x1x1x28x1, .i32⟩
  | 109 => ⟨S_, .i32⟩
  | 110 => ⟨S4x256x1x1x2x1x1x28, .i32⟩
  | 111 => ⟨S4x256x1x1x2x1x1x28, .i1⟩
  | 112 => ⟨S_, .i32⟩
  | 113 => ⟨S4x256x1x1x2x1x1x28, .i32⟩
  | 114 => ⟨S4x256x1x1x2x1x1x28, .i32⟩
  | 115 => ⟨S4x256x1x1x2x1x1x28, .i32⟩
  | 116 => ⟨S4x256x2x2x2x28x28x28, .i32⟩
  | 117 => ⟨S4x256x2x2x2x28x28x28, .i32⟩
  | 118 => ⟨S4x256x2x2x2x28x28x28, .i32⟩
  | 119 => ⟨S4x256x2x2x2x28x28x28x1, .i32⟩
  | 120 => ⟨S4x256x2x2x2x28x28x28x1, .i32⟩
  | 121 => ⟨S4x256x2x2x2x28x28x28x1, .i32⟩
  | 122 => ⟨S4x256x2x2x2x28x28x28x3, .i32⟩
  | 123 => ⟨S4x256x2x2x2x28x28x28, .f32⟩
  | 124 => ⟨S4x256x2x2x2x28x28x28, .f32⟩
  | 125 => ⟨S_, .f32⟩
  | 126 => ⟨S4x256x2x2x28x28x28, .f32⟩
  | 127 => ⟨S_, .f32⟩
  | _ => ⟨S20000x6, .f32⟩

abbrev hbmTy0_4 (i : Nat) : BufTy := match i % 128 with
  | 0 => ⟨S4x256x2x28x28x28, .f32⟩
  | 1 => ⟨S_, .f32⟩
  | 2 => ⟨S4x256x28x28x28, .f32⟩
  | 3 => ⟨S4x256, .i32⟩
  | 4 => ⟨S1024x6, .f32⟩
  | 5 => ⟨S1024x6, .f32⟩
  | 6 => ⟨S1024, .i32⟩
  | 7 => ⟨S1024x28x28x28, .f32⟩
  | 8 => ⟨S1024, .i32⟩
  | _ => ⟨S20000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000x6, .f32⟩

abbrev bufTy : (tb : Table) → Fin (tcTables nBuf tb) → BufTy
  | .hbm, ⟨i, _⟩ => hbmTy i
  | _, _ => ⟨S20000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_0 : Ref sig .tc := ⟨.hbm, 51, rfl⟩
abbrev main_call1_v0 : Ref sig .tc := ⟨.hbm, 52, rfl⟩
abbrev main_call1_v1 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_1 : Ref sig .tc := ⟨.hbm, 72, rfl⟩
abbrev main_call2_v0 : Ref sig .tc := ⟨.hbm, 73, rfl⟩
abbrev main_call2_v1 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_2 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_3 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_v107 : Ref sig .tc := ⟨.hbm, 127, rfl⟩
abbrev main_cst_4 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_5 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_6 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_7 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_8 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_v124 : Ref sig .tc := ⟨.hbm, 152, rfl⟩
abbrev main_v125 : Ref sig .tc := ⟨.hbm, 153, rfl⟩
abbrev main_values : Ref sig .tc := ⟨.hbm, 154, rfl⟩
abbrev main_indices : Ref sig .tc := ⟨.hbm, 155, rfl⟩
abbrev main_v126 : Ref sig .tc := ⟨.hbm, 156, rfl⟩
abbrev main_cst_9 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_v127 : Ref sig .tc := ⟨.hbm, 161, rfl⟩
abbrev main_v128 : Ref sig .tc := ⟨.hbm, 162, rfl⟩
abbrev main_values_10 : Ref sig .tc := ⟨.hbm, 163, rfl⟩
abbrev main_indices_11 : Ref sig .tc := ⟨.hbm, 164, rfl⟩
abbrev main_v129 : Ref sig .tc := ⟨.hbm, 165, rfl⟩
abbrev main_c : Ref sig .tc := ⟨.hbm, 166, rfl⟩
abbrev main_call6_v0 : Ref sig .tc := ⟨.hbm, 167, rfl⟩
abbrev main_call6_v1 : Ref sig .tc := ⟨.hbm, 168, rfl⟩
abbrev main_call6_v2 : Ref sig .tc := ⟨.hbm, 169, rfl⟩
abbrev main_call6_v3 : Ref sig .tc := ⟨.hbm, 170, rfl⟩
abbrev main_call6_v4 : Ref sig .tc := ⟨.hbm, 171, rfl⟩
abbrev main_call6_v5 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_c : Ref sig .tc := ⟨.hbm, 176, rfl⟩
abbrev main_call6_v9 : Ref sig .tc := ⟨.hbm, 177, rfl⟩
abbrev main_call6_v10 : Ref sig .tc := ⟨.hbm, 178, rfl⟩
abbrev main_call6_v11 : Ref sig .tc := ⟨.hbm, 179, rfl⟩
abbrev main_call6_c_0 : Ref sig .tc := ⟨.hbm, 180, rfl⟩
abbrev main_call6_v12 : Ref sig .tc := ⟨.hbm, 181, rfl⟩
abbrev main_call6_v13 : Ref sig .tc := ⟨.hbm, 182, rfl⟩
abbrev main_v130 : Ref sig .tc := ⟨.hbm, 183, rfl⟩
abbrev main_c_12 : Ref sig .tc := ⟨.hbm, 184, rfl⟩
abbrev main_call7_v0 : Ref sig .tc := ⟨.hbm, 185, rfl⟩
abbrev main_call7_c : Ref sig .tc := ⟨.hbm, 186, rfl⟩
abbrev main_call7_v1 : Ref sig .tc := ⟨.hbm, 187, rfl⟩
abbrev main_call7_c_0 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_call7_c_1 : Ref sig .tc := ⟨.hbm, 192, rfl⟩
abbrev main_call7_v5 : Ref sig .tc := ⟨.hbm, 193, rfl⟩
abbrev main_call7_v6 : Ref sig .tc := ⟨.hbm, 194, rfl⟩
abbrev main_call7_c_2 : Ref sig .tc := ⟨.hbm, 195, rfl⟩
abbrev main_call7_v7 : Ref sig .tc := ⟨.hbm, 196, rfl⟩
abbrev main_call7_v8 : Ref sig .tc := ⟨.hbm, 197, rfl⟩
abbrev main_call7_c_3 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_v12 : Ref sig .tc := ⟨.hbm, 202, rfl⟩
abbrev main_call7_v13 : Ref sig .tc := ⟨.hbm, 203, rfl⟩
abbrev main_call7_v14 : Ref sig .tc := ⟨.hbm, 204, rfl⟩
abbrev main_v131 : Ref sig .tc := ⟨.hbm, 205, rfl⟩
abbrev main_call8_c : Ref sig .tc := ⟨.hbm, 206, rfl⟩
abbrev main_call8_v0 : Ref sig .tc := ⟨.hbm, 207, rfl⟩
abbrev main_call8_v1 : Ref sig .tc := ⟨.hbm, 208, rfl⟩
abbrev main_call8_c_0 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_c_1 : Ref sig .tc := ⟨.hbm, 214, rfl⟩
abbrev main_call8_c_2 : Ref sig .tc := ⟨.hbm, 215, rfl⟩
abbrev main_call8_v6 : Ref sig .tc := ⟨.hbm, 216, rfl⟩
abbrev main_call8_v7 : Ref sig .tc := ⟨.hbm, 217, rfl⟩
abbrev main_call8_v8 : Ref sig .tc := ⟨.hbm, 218, rfl⟩
abbrev main_call8_v9 : Ref sig .tc := ⟨.hbm, 219, rfl⟩
abbrev main_call8_v10 : Ref sig .tc := ⟨.hbm, 220, rfl⟩
abbrev main_call8_v11 : Ref sig .tc := ⟨.hbm, 221, rfl⟩
abbrev main_call8_c_3 : Ref sig .tc := ⟨.hbm, 222, rfl⟩
abbrev main_call8_v12 : Ref sig .tc := ⟨.hbm, 223, rfl⟩
abbrev main_call8_v13 : Ref sig .tc := ⟨.hbm, 224, rfl⟩
abbrev main_call8_v14 : Ref sig .tc := ⟨.hbm, 225, rfl⟩
abbrev main_call8_cst : Ref sig .tc := ⟨.hbm, 226, rfl⟩
abbrev main_call8_v15 : Ref sig .tc := ⟨.hbm, 227, rfl⟩
abbrev main_v132 : Ref sig .tc := ⟨.hbm, 228, rfl⟩
abbrev main_call9_c : Ref sig .tc := ⟨.hbm, 229, rfl⟩
abbrev main_call9_v0 : Ref sig .tc := ⟨.hbm, 230, rfl⟩
abbrev main_call9_v1 : Ref sig .tc := ⟨.hbm, 231, rfl⟩
abbrev main_call9_c_0 : Ref sig .tc := ⟨.hbm, 232, rfl⟩
abbrev main_call9_v2 : Ref sig .tc := ⟨.hbm, 233, rfl⟩
abbrev main_call9_v3 : Ref sig .tc := ⟨.hbm, 234, rfl⟩
abbrev main_call9_v4 : Ref sig .tc := ⟨.hbm, 235, rfl⟩
abbrev main_call9_v5 : Ref sig .tc := ⟨.hbm, 236, rfl⟩
abbrev main_call9_c_1 : Ref sig .tc := ⟨.hbm, 237, rfl⟩
abbrev main_call9_c_2 : Ref sig .tc := ⟨.hbm, 238, rfl⟩
abbrev main_call9_v6 : Ref sig .tc := ⟨.hbm, 239, rfl⟩
abbrev main_call9_v7 : Ref sig .tc := ⟨.hbm, 240, rfl⟩
abbrev main_call9_v8 : Ref sig .tc := ⟨.hbm, 241, rfl⟩
abbrev main_call9_v9 : Ref sig .tc := ⟨.hbm, 242, rfl⟩
abbrev main_call9_v10 : Ref sig .tc := ⟨.hbm, 243, rfl⟩
abbrev main_call9_v11 : Ref sig .tc := ⟨.hbm, 244, rfl⟩
abbrev main_call9_c_3 : Ref sig .tc := ⟨.hbm, 245, rfl⟩
abbrev main_call9_v12 : Ref sig .tc := ⟨.hbm, 246, rfl⟩
abbrev main_call9_v13 : Ref sig .tc := ⟨.hbm, 247, rfl⟩
abbrev main_call9_v14 : Ref sig .tc := ⟨.hbm, 248, rfl⟩
abbrev main_call9_cst : Ref sig .tc := ⟨.hbm, 249, rfl⟩
abbrev main_call9_v15 : Ref sig .tc := ⟨.hbm, 250, rfl⟩
abbrev main_v133 : Ref sig .tc := ⟨.hbm, 251, rfl⟩
abbrev main_call10_c : Ref sig .tc := ⟨.hbm, 252, rfl⟩
abbrev main_call10_v0 : Ref sig .tc := ⟨.hbm, 253, rfl⟩
abbrev main_call10_v1 : Ref sig .tc := ⟨.hbm, 254, rfl⟩
abbrev main_call10_c_0 : Ref sig .tc := ⟨.hbm, 255, rfl⟩
abbrev main_call10_v2 : Ref sig .tc := ⟨.hbm, 256, rfl⟩
abbrev main_call10_v3 : Ref sig .tc := ⟨.hbm, 257, rfl⟩
abbrev main_call10_v4 : Ref sig .tc := ⟨.hbm, 258, rfl⟩
abbrev main_call10_v5 : Ref sig .tc := ⟨.hbm, 259, rfl⟩
abbrev main_call10_c_1 : Ref sig .tc := ⟨.hbm, 260, rfl⟩
abbrev main_call10_c_2 : Ref sig .tc := ⟨.hbm, 261, rfl⟩
abbrev main_call10_v6 : Ref sig .tc := ⟨.hbm, 262, rfl⟩
abbrev main_call10_v7 : Ref sig .tc := ⟨.hbm, 263, rfl⟩
abbrev main_call10_v8 : Ref sig .tc := ⟨.hbm, 264, rfl⟩
abbrev main_call10_v9 : Ref sig .tc := ⟨.hbm, 265, rfl⟩
abbrev main_call10_v10 : Ref sig .tc := ⟨.hbm, 266, rfl⟩
abbrev main_call10_v11 : Ref sig .tc := ⟨.hbm, 267, rfl⟩
abbrev main_call10_c_3 : Ref sig .tc := ⟨.hbm, 268, rfl⟩
abbrev main_call10_v12 : Ref sig .tc := ⟨.hbm, 269, rfl⟩
abbrev main_call10_v13 : Ref sig .tc := ⟨.hbm, 270, rfl⟩
abbrev main_call10_c_4 : Ref sig .tc := ⟨.hbm, 271, rfl⟩
abbrev main_call10_v14 : Ref sig .tc := ⟨.hbm, 272, rfl⟩
abbrev main_v134 : Ref sig .tc := ⟨.hbm, 273, rfl⟩
abbrev main_c_13 : Ref sig .tc := ⟨.hbm, 274, rfl⟩
abbrev main_v135 : Ref sig .tc := ⟨.hbm, 275, rfl⟩
abbrev main_c_14 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_v142 : Ref sig .tc := ⟨.hbm, 283, rfl⟩
abbrev main_v143 : Ref sig .tc := ⟨.hbm, 284, rfl⟩
abbrev main_v144 : Ref sig .tc := ⟨.hbm, 285, rfl⟩
abbrev main_v145 : Ref sig .tc := ⟨.hbm, 286, rfl⟩
abbrev main_v146 : Ref sig .tc := ⟨.hbm, 287, rfl⟩
abbrev main_v147 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_cst_15 : Ref sig .tc := ⟨.hbm, 297, rfl⟩
abbrev main_v156 : Ref sig .tc := ⟨.hbm, 298, rfl⟩
abbrev main_v157 : Ref sig .tc := ⟨.hbm, 299, rfl⟩
abbrev main_v158 : Ref sig .tc := ⟨.hbm, 300, rfl⟩
abbrev main_v159 : Ref sig .tc := ⟨.hbm, 301, rfl⟩
abbrev main_v160 : Ref sig .tc := ⟨.hbm, 302, rfl⟩
abbrev main_cst_16 : Ref sig .tc := ⟨.hbm, 303, rfl⟩
abbrev main_v161 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_cst_17 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_v169 : Ref sig .tc := ⟨.hbm, 313, rfl⟩
abbrev main_v170 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_cst_18 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_cst_19 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_cst_20 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_cst_21 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_v203 : Ref sig .tc := ⟨.hbm, 351, rfl⟩
abbrev main_cst_22 : Ref sig .tc := ⟨.hbm, 352, rfl⟩
abbrev main_v204 : Ref sig .tc := ⟨.hbm, 353, rfl⟩
abbrev main_v205 : Ref sig .tc := ⟨.hbm, 354, rfl⟩
abbrev main_v206 : Ref sig .tc := ⟨.hbm, 355, rfl⟩
abbrev main_v207 : Ref sig .tc := ⟨.hbm, 356, rfl⟩
abbrev main_cst_23 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩
abbrev main_cst_24 : Ref sig .tc := ⟨.hbm, 361, rfl⟩
abbrev main_v211 : Ref sig .tc := ⟨.hbm, 362, rfl⟩
abbrev main_v212 : Ref sig .tc := ⟨.hbm, 363, rfl⟩
abbrev main_cst_25 : Ref sig .tc := ⟨.hbm, 364, rfl⟩
abbrev main_v213 : Ref sig .tc := ⟨.hbm, 365, rfl⟩
abbrev main_v214 : Ref sig .tc := ⟨.hbm, 366, rfl⟩
abbrev main_v215 : Ref sig .tc := ⟨.hbm, 367, rfl⟩
abbrev main_v216 : Ref sig .tc := ⟨.hbm, 368, rfl⟩
abbrev main_cst_26 : Ref sig .tc := ⟨.hbm, 369, rfl⟩
abbrev main_v217 : Ref sig .tc := ⟨.hbm, 370, rfl⟩
abbrev main_v218 : Ref sig .tc := ⟨.hbm, 371, rfl⟩
abbrev main_cst_27 : Ref sig .tc := ⟨.hbm, 372, rfl⟩
abbrev main_v219 : Ref sig .tc := ⟨.hbm, 373, rfl⟩
abbrev main_v220 : Ref sig .tc := ⟨.hbm, 374, rfl⟩
abbrev main_v221 : Ref sig .tc := ⟨.hbm, 375, rfl⟩
abbrev main_v222 : Ref sig .tc := ⟨.hbm, 376, rfl⟩
abbrev main_cst_28 : Ref sig .tc := ⟨.hbm, 377, rfl⟩
abbrev main_v223 : Ref sig .tc := ⟨.hbm, 378, rfl⟩
abbrev main_v224 : Ref sig .tc := ⟨.hbm, 379, rfl⟩
abbrev main_cst_29 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_v228 : Ref sig .tc := ⟨.hbm, 384, rfl⟩
abbrev main_v229 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_v235 : Ref sig .tc := ⟨.hbm, 391, rfl⟩
abbrev main_v236 : Ref sig .tc := ⟨.hbm, 392, rfl⟩
abbrev main_v237 : Ref sig .tc := ⟨.hbm, 393, rfl⟩
abbrev main_call11_v0 : Ref sig .tc := ⟨.hbm, 394, rfl⟩
abbrev main_call11_cst : Ref sig .tc := ⟨.hbm, 395, rfl⟩
abbrev main_call11_v1 : Ref sig .tc := ⟨.hbm, 396, rfl⟩
abbrev main_call11_v2 : Ref sig .tc := ⟨.hbm, 397, rfl⟩
abbrev main_call11_v3 : Ref sig .tc := ⟨.hbm, 398, rfl⟩
abbrev main_call11_v4 : Ref sig .tc := ⟨.hbm, 399, rfl⟩
abbrev main_call11_cst_0 : Ref sig .tc := ⟨.hbm, 400, rfl⟩
abbrev main_call11_v5 : Ref sig .tc := ⟨.hbm, 401, rfl⟩
abbrev main_call11_v6 : Ref sig .tc := ⟨.hbm, 402, rfl⟩
abbrev main_call11_v7 : Ref sig .tc := ⟨.hbm, 403, rfl⟩
abbrev main_call11_cst_1 : Ref sig .tc := ⟨.hbm, 404, rfl⟩
abbrev main_call11_v8 : Ref sig .tc := ⟨.hbm, 405, rfl⟩
abbrev main_call11_v9 : Ref sig .tc := ⟨.hbm, 406, rfl⟩
abbrev main_call11_v10 : Ref sig .tc := ⟨.hbm, 407, rfl⟩
abbrev main_call11_v11 : Ref sig .tc := ⟨.hbm, 408, rfl⟩
abbrev main_call11_v12 : Ref sig .tc := ⟨.hbm, 409, rfl⟩
abbrev main_call11_v13 : Ref sig .tc := ⟨.hbm, 410, rfl⟩
abbrev main_call11_v14 : Ref sig .tc := ⟨.hbm, 411, rfl⟩
abbrev main_call11_v15 : Ref sig .tc := ⟨.hbm, 412, rfl⟩
abbrev main_call11_v16 : Ref sig .tc := ⟨.hbm, 413, rfl⟩
abbrev main_call11_v17 : Ref sig .tc := ⟨.hbm, 414, rfl⟩
abbrev main_call11_v18 : Ref sig .tc := ⟨.hbm, 415, rfl⟩
abbrev main_call11_v19 : Ref sig .tc := ⟨.hbm, 416, rfl⟩
abbrev main_call11_v20 : Ref sig .tc := ⟨.hbm, 417, rfl⟩
abbrev main_call11_v21 : Ref sig .tc := ⟨.hbm, 418, rfl⟩
abbrev main_call11_v22 : Ref sig .tc := ⟨.hbm, 419, rfl⟩
abbrev main_v238 : Ref sig .tc := ⟨.hbm, 420, rfl⟩
abbrev main_cst_30 : Ref sig .tc := ⟨.hbm, 421, rfl⟩
abbrev main_v239 : Ref sig .tc := ⟨.hbm, 422, rfl⟩
abbrev main_v240 : Ref sig .tc := ⟨.hbm, 423, rfl⟩
abbrev main_v241 : Ref sig .tc := ⟨.hbm, 424, rfl⟩
abbrev main_v242 : Ref sig .tc := ⟨.hbm, 425, rfl⟩
abbrev main_v243 : Ref sig .tc := ⟨.hbm, 426, rfl⟩
abbrev main_v244 : Ref sig .tc := ⟨.hbm, 427, rfl⟩
abbrev main_v245 : Ref sig .tc := ⟨.hbm, 428, rfl⟩
abbrev main_v246 : Ref sig .tc := ⟨.hbm, 429, rfl⟩
abbrev main_v247 : Ref sig .tc := ⟨.hbm, 430, rfl⟩
abbrev main_v248 : Ref sig .tc := ⟨.hbm, 431, rfl⟩
abbrev main_v249 : Ref sig .tc := ⟨.hbm, 432, rfl⟩
abbrev main_v250 : Ref sig .tc := ⟨.hbm, 433, rfl⟩
abbrev main_v251 : Ref sig .tc := ⟨.hbm, 434, rfl⟩
abbrev main_c_31 : Ref sig .tc := ⟨.hbm, 435, rfl⟩
abbrev main_c_32 : Ref sig .tc := ⟨.hbm, 436, rfl⟩
abbrev main_call12_v0 : Ref sig .tc := ⟨.hbm, 437, rfl⟩
abbrev main_call12_v1 : Ref sig .tc := ⟨.hbm, 438, rfl⟩
abbrev main_call12_v2 : Ref sig .tc := ⟨.hbm, 439, rfl⟩
abbrev main_call12_v3 : Ref sig .tc := ⟨.hbm, 440, rfl⟩
abbrev main_call12_v4 : Ref sig .tc := ⟨.hbm, 441, rfl⟩
abbrev main_v252 : Ref sig .tc := ⟨.hbm, 442, rfl⟩
abbrev main_c_33 : Ref sig .tc := ⟨.hbm, 443, rfl⟩
abbrev main_v253 : Ref sig .tc := ⟨.hbm, 444, rfl⟩
abbrev main_v254 : Ref sig .tc := ⟨.hbm, 445, rfl⟩
abbrev main_cst_34 : Ref sig .tc := ⟨.hbm, 446, rfl⟩
abbrev main_v255 : Ref sig .tc := ⟨.hbm, 447, rfl⟩
abbrev main_v256 : Ref sig .tc := ⟨.hbm, 448, rfl⟩
abbrev main_call13_v0 : Ref sig .tc := ⟨.hbm, 449, rfl⟩
abbrev main_call13_v1 : Ref sig .tc := ⟨.hbm, 450, rfl⟩
abbrev main_call13_v2 : Ref sig .tc := ⟨.hbm, 451, rfl⟩
abbrev main_call13_v3 : Ref sig .tc := ⟨.hbm, 452, rfl⟩
abbrev main_call13_v4 : Ref sig .tc := ⟨.hbm, 453, rfl⟩
abbrev main_v257 : Ref sig .tc := ⟨.hbm, 454, rfl⟩
abbrev main_v258 : Ref sig .tc := ⟨.hbm, 455, rfl⟩
abbrev main_v259 : Ref sig .tc := ⟨.hbm, 456, rfl⟩
abbrev main_v260 : Ref sig .tc := ⟨.hbm, 457, rfl⟩
abbrev main_v261 : Ref sig .tc := ⟨.hbm, 458, rfl⟩
abbrev main_v262 : Ref sig .tc := ⟨.hbm, 459, rfl⟩
abbrev main_v263 : Ref sig .tc := ⟨.hbm, 460, rfl⟩
abbrev main_v264 : Ref sig .tc := ⟨.hbm, 461, rfl⟩
abbrev main_v265 : Ref sig .tc := ⟨.hbm, 462, rfl⟩
abbrev main_v266 : Ref sig .tc := ⟨.hbm, 463, rfl⟩
abbrev main_v267 : Ref sig .tc := ⟨.hbm, 464, rfl⟩
abbrev main_v268 : Ref sig .tc := ⟨.hbm, 465, rfl⟩
abbrev main_v269 : Ref sig .tc := ⟨.hbm, 466, rfl⟩
abbrev main_v270 : Ref sig .tc := ⟨.hbm, 467, rfl⟩
abbrev main_v271 : Ref sig .tc := ⟨.hbm, 468, rfl⟩
abbrev main_v272 : Ref sig .tc := ⟨.hbm, 469, rfl⟩
abbrev main_v273 : Ref sig .tc := ⟨.hbm, 470, rfl⟩
abbrev main_v274 : Ref sig .tc := ⟨.hbm, 471, rfl⟩
abbrev main_v275 : Ref sig .tc := ⟨.hbm, 472, rfl⟩
abbrev main_v276 : Ref sig .tc := ⟨.hbm, 473, rfl⟩
abbrev main_v277 : Ref sig .tc := ⟨.hbm, 474, rfl⟩
abbrev main_v278 : Ref sig .tc := ⟨.hbm, 475, rfl⟩
abbrev main_v279 : Ref sig .tc := ⟨.hbm, 476, rfl⟩
abbrev main_v280 : Ref sig .tc := ⟨.hbm, 477, rfl⟩
abbrev main_v281 : Ref sig .tc := ⟨.hbm, 478, rfl⟩
abbrev main_c_35 : Ref sig .tc := ⟨.hbm, 479, rfl⟩
abbrev main_v282 : Ref sig .tc := ⟨.hbm, 480, rfl⟩
abbrev main_v283 : Ref sig .tc := ⟨.hbm, 481, rfl⟩
abbrev main_c_36 : Ref sig .tc := ⟨.hbm, 482, rfl⟩
abbrev main_v284 : Ref sig .tc := ⟨.hbm, 483, rfl⟩
abbrev main_v285 : Ref sig .tc := ⟨.hbm, 484, rfl⟩
abbrev main_v286 : Ref sig .tc := ⟨.hbm, 485, rfl⟩
abbrev main_c_37 : Ref sig .tc := ⟨.hbm, 486, rfl⟩
abbrev main_v287 : Ref sig .tc := ⟨.hbm, 487, rfl⟩
abbrev main_v288 : Ref sig .tc := ⟨.hbm, 488, rfl⟩
abbrev main_c_38 : Ref sig .tc := ⟨.hbm, 489, rfl⟩
abbrev main_v289 : Ref sig .tc := ⟨.hbm, 490, rfl⟩
abbrev main_v290 : Ref sig .tc := ⟨.hbm, 491, rfl⟩
abbrev main_v291 : Ref sig .tc := ⟨.hbm, 492, rfl⟩
abbrev main_c_39 : Ref sig .tc := ⟨.hbm, 493, rfl⟩
abbrev main_v292 : Ref sig .tc := ⟨.hbm, 494, rfl⟩
abbrev main_v293 : Ref sig .tc := ⟨.hbm, 495, rfl⟩
abbrev main_c_40 : Ref sig .tc := ⟨.hbm, 496, rfl⟩
abbrev main_v294 : Ref sig .tc := ⟨.hbm, 497, rfl⟩
abbrev main_v295 : Ref sig .tc := ⟨.hbm, 498, rfl⟩
abbrev main_v296 : Ref sig .tc := ⟨.hbm, 499, rfl⟩
abbrev main_v297 : Ref sig .tc := ⟨.hbm, 500, rfl⟩
abbrev main_v298 : Ref sig .tc := ⟨.hbm, 501, rfl⟩
abbrev main_v299 : Ref sig .tc := ⟨.hbm, 502, rfl⟩
abbrev main_v300 : Ref sig .tc := ⟨.hbm, 503, rfl⟩
abbrev main_v301 : Ref sig .tc := ⟨.hbm, 504, rfl⟩
abbrev main_v302 : Ref sig .tc := ⟨.hbm, 505, rfl⟩
abbrev main_v303 : Ref sig .tc := ⟨.hbm, 506, rfl⟩
abbrev main_v304 : Ref sig .tc := ⟨.hbm, 507, rfl⟩
abbrev main_v305 : Ref sig .tc := ⟨.hbm, 508, rfl⟩
abbrev main_cst_41 : Ref sig .tc := ⟨.hbm, 509, rfl⟩
abbrev main_v306 : Ref sig .tc := ⟨.hbm, 510, rfl⟩
abbrev main_cst_42 : Ref sig .tc := ⟨.hbm, 511, rfl⟩
abbrev main_v307 : Ref sig .tc := ⟨.hbm, 512, rfl⟩
abbrev main_cst_43 : Ref sig .tc := ⟨.hbm, 513, rfl⟩
abbrev main_v308 : Ref sig .tc := ⟨.hbm, 514, rfl⟩
abbrev main_v309 : Ref sig .tc := ⟨.hbm, 515, rfl⟩
abbrev main_v310 : Ref sig .tc := ⟨.hbm, 516, rfl⟩
abbrev main_v311 : Ref sig .tc := ⟨.hbm, 517, rfl⟩
abbrev main_v312 : Ref sig .tc := ⟨.hbm, 518, rfl⟩
abbrev main_v313 : Ref sig .tc := ⟨.hbm, 519, rfl⟩
abbrev main_v314 : Ref sig .tc := ⟨.hbm, 520, rfl⟩

abbrev nD : Nat := 1
abbrev τ : Topo := Topo.v7x

variable {F : FTy → Type} [FloatOps F]
-- ==== Proof.KRun.lean ====
/- The kernel's run with its results named: the launch of the generated frame, the last boundary's contents read at the
   five result buffers and at the arguments. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair run of the kernel ends with every buffer that outlives the regions at its contents at the last
    boundary. -/
theorem run_all : θ_run defs (onTc (τ := τ) (main (F := F))) ⟨m, fun _ => 0, ρ⟩ (fun r =>
    ∀ c : Dev nD, ∀ b ∈ Pipeline.ucRefs τ sig, r.2.mem ((c : Thread nD τ).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The run read at the five results and the five arguments. -/
theorem run_results : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_v0_3) = W5 m ρ c (Proc.devRef .tc main_v0_3)
      ∧ r.2.mem ((c.tc : Thread nD τ).loc main_v0_4) = W5 m ρ c (Proc.devRef .tc main_v0_4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v0_0 (by decide)), h c _ (mem_uc main_v0_1 (by decide)), h c _ (mem_uc main_v0_2 (by decide)),
     h c _ (mem_uc main_v0_3 (by decide)), h c _ (mem_uc main_v0_4 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Gen

end
-- ==== Proof.Score.lean ====
/- The scores of one ground-truth box against one proposal, in extended reals, and the first kernel's two outputs and the
   reference's two score arrays read as these. -/
module

public import proofs.«01_k».proof.Proof.Gen.KernelIdeal.Frame
public import proofs.«01_k».proof.Proof.Gen.ReferenceIdeal.Run
public import Idealize.ShloMosaic.Lib.Pointwise
public import Idealize.ShloMosaic.PureOps.Ideal

@[expose] public section

set_option maxRecDepth 16384

noncomputable section

namespace Cert.Score

open Idealize.ShloMosaic Idealize.ShloMosaic.TcCoe

/-- The volume two boxes share. -/
def inter (b r : Fin 6 → EReal) : EReal :=
  max (min (b 3) (r 3) - max (b 0) (r 0)) 0 * max (min (b 4) (r 4) - max (b 1) (r 1)) 0 * max (min (b 5) (r 5) - max (b 2) (r 2)) 0

/-- A box's volume. -/
def vol (b : Fin 6 → EReal) : EReal := (b 3 - b 0) * (b 4 - b 1) * (b 5 - b 2)

/-- The shared volume over the joint one where `k` holds, minus one elsewhere. -/
def iou (k : BitVec 1) (b r : Fin 6 → EReal) : EReal :=
  Scalar.select k (Ideal.div (inter b r) (vol b + vol r - inter b r + Ideal.ofBits .f32 0x322BCC77#32)) (Ideal.ofBits .f32 0xBF800000#32)

/-- Whether box `g` is the proposal's best, the proposal being of this image. -/
def best (k : BitVec 1) (q : Fin 8 → EReal) (g : Fin 8) : BitVec 1 :=
  IntOp.andi (Ideal.cmp .oeq (q g) (Finset.univ.fold max (Ideal.ofBits .f32 0xFF800000#32) q)) k

/-- The score as a positive. -/
def pos (k : BitVec 1) (q : Fin 8 → EReal) (g : Fin 8) : EReal :=
  Scalar.select (IntOp.andi (best k q g) (Ideal.cmp .oge (q g) (Ideal.ofBits .f32 0x3DCCCCCD#32))) (q g) (Ideal.ofBits .f32 0xCE6E6B28#32)

/-- The score as a negative. -/
def neg (k : BitVec 1) (q : Fin 8 → EReal) (g : Fin 8) : EReal :=
  Scalar.select (IntOp.andi (IntOp.andi (best k q g) (Ideal.cmp .olt (q g) (Ideal.ofBits .f32 0x3CA3D70A#32))) (Ideal.cmp .oge (q g) 0))
    (-q g) (Ideal.ofBits .f32 0xCE6E6B28#32)

end Cert.Score

namespace Cert.KernelIdeal.Score

open Cert.KernelIdeal Cert.KernelIdeal.Gen
open Idealize.ShloMosaic Idealize.ShloMosaic.TcCoe

/-- The masked overlaps of the first kernel's body, at the grid point `i` and its blocks. -/
abbrev masked (i : grid0.Coords) (x0 : Vec Ideal S6x20000 .f32) (x1 : Vec Ideal S1x20000 .i32) (x2 : Vec Ideal S1x8x6 .f32) : FVec Ideal S8x20000 .f32 :=
  k0_pay18 (k0_pay22 i x0 x1 x2) (k0_pay23 i x0 x1 x2) (k0_pay24 i x0 x1 x2) (k0_pay25 i x0 x1 x2) (k0_pay26 i x0 x1 x2) (k0_pay27 i x0 x1 x2) (k0_pay28 i x0 x1 x2) (k0_pay29 i x0 x1 x2) (k0_pay30 i x0 x1 x2) (k0_pay31 i x0 x1 x2) (k0_pay32 i x0 x1 x2) (k0_pay33 i x0 x1 x2) (k0_pay34 i x0 x1 x2) (k0_pay35 i x0 x1 x2)

/-- The masked overlap of box `g` and proposal `p`. -/
theorem masked_apply (i : grid0.Coords) (x0 : Vec Ideal S6x20000 .f32) (x1 : Vec Ideal S1x20000 .i32) (x2 : Vec Ideal S1x8x6 .f32) (g : Fin 8) (p : Fin 20000) :
    masked i x0 x1 x2 (ix2 g p)
      = Cert.Score.iou (IntOp.cmpi .eq (x1 (ix2 0 p)) (BitVec.ofNat 32 (i 0).val)) (fun k => x2 (ix3 0 g k)) (fun k => x0 (ix2 k p)) := by
  pointwise [masked, k0_pay18, k0_pay22, k0_pay23, k0_pay24, k0_pay25, k0_pay26, k0_pay27, k0_pay28, k0_pay29, k0_pay30, k0_pay31, k0_pay32, k0_pay33, k0_pay34, k0_pay35, k0_pay2, k0_pay3, k0_pay4, k0_pay5, k0_pay6, k0_pay7, k0_pay8, k0_pay9, k0_pay10, k0_pay11, k0_pay12, k0_pay13, k0_pay14, k0_pay15, k0_pay16, k0_pay17]
  rfl

/-- The positive scores from the masked overlaps. -/
theorem pay20_apply (v7 : IVec S1x20000 1) (v8 v9 v10 v11 v12 v13 : FVec Ideal S1x20000 .f32) (v14 v15 v16 v17 v18 v19 : FVec Ideal S8x1 .f32) (v48 : FVec Ideal S8x20000 .f32) (g : Fin 8) (p : Fin 20000) :
    k0_pay20 v7 v8 v9 v10 v11 v12 v13 v14 v15 v16 v17 v18 v19 v48 (ix3 0 g p) = Cert.Score.pos (v7 (ix2 0 p)) (fun g => k0_pay18 v7 v8 v9 v10 v11 v12 v13 v14 v15 v16 v17 v18 v19 v48 (ix2 g p)) g := by
  pointwise [k0_pay20, k0_pay19]
  rfl

/-- The negative scores from the masked overlaps. -/
theorem pay21_apply (v7 : IVec S1x20000 1) (v8 v9 v10 v11 v12 v13 : FVec Ideal S1x20000 .f32) (v14 v15 v16 v17 v18 v19 : FVec Ideal S8x1 .f32) (v48 : FVec Ideal S8x20000 .f32) (g : Fin 8) (p : Fin 20000) :
    k0_pay1 (k0_pay21 v7 v8 v9 v10 v11 v12 v13 v14 v15 v16 v17 v18 v19 v48) (ix3 0 g p) = Cert.Score.neg (v7 (ix2 0 p)) (fun g => k0_pay18 v7 v8 v9 v10 v11 v12 v13 v14 v15 v16 v17 v18 v19 v48 (ix2 g p)) g := by
  pointwise [k0_pay1, k0_pay21, k0_pay19]
  rw [zero_sub]
  rfl

/-- The positive scores' block. -/
theorem out0_3_apply (i : grid0.Coords) (x0 : Vec Ideal S6x20000 .f32) (x1 : Vec Ideal S1x20000 .i32) (x2 : Vec Ideal S1x8x6 .f32) (g : Fin 8) (p : Fin 20000) :
    out0_3 i x0 x1 x2 (ix3 0 g p)
      = Cert.Score.pos (IntOp.cmpi .eq (x1 (ix2 0 p)) (BitVec.ofNat 32 (i 0).val))
          (fun g => Cert.Score.iou (IntOp.cmpi .eq (x1 (ix2 0 p)) (BitVec.ofNat 32 (i 0).val)) (fun k => x2 (ix3 0 g k)) (fun k => x0 (ix2 k p))) g := by
  unfold out0_3
  rw [View.canon_unit_zero (by decide)]
  refine (pay20_apply ..).trans ?_
  have hk : k0_pay22 i x0 x1 x2 (ix2 0 p) = IntOp.cmpi .eq (x1 (ix2 0 p)) (BitVec.ofNat 32 (i 0).val) := by
    pointwise [k0_pay22, k0_pay4]
  rw [hk]
  exact congrArg (fun q => Cert.Score.pos _ q g) (funext fun g => masked_apply i x0 x1 x2 g p)

/-- The negative scores' block. -/
theorem out0_4_apply (i : grid0.Coords) (x0 : Vec Ideal S6x20000 .f32) (x1 : Vec Ideal S1x20000 .i32) (x2 : Vec Ideal S1x8x6 .f32) (g : Fin 8) (p : Fin 20000) :
    out0_4 i x0 x1 x2 (ix3 0 g p)
      = Cert.Score.neg (IntOp.cmpi .eq (x1 (ix2 0 p)) (BitVec.ofNat 32 (i 0).val))
          (fun g => Cert.Score.iou (IntOp.cmpi .eq (x1 (ix2 0 p)) (BitVec.ofNat 32 (i 0).val)) (fun k => x2 (ix3 0 g k)) (fun k => x0 (ix2 k p))) g := by
  unfold out0_4
  rw [View.canon_unit_zero (by decide)]
  refine (pay21_apply ..).trans ?_
  have hk : k0_pay22 i x0 x1 x2 (ix2 0 p) = IntOp.cmpi .eq (x1 (ix2 0 p)) (BitVec.ofNat 32 (i 0).val) := by
    pointwise [k0_pay22, k0_pay4]
  rw [hk]
  exact congrArg (fun q => Cert.Score.neg _ q g) (funext fun g => masked_apply i x0 x1 x2 g p)

end Cert.KernelIdeal.Score

namespace Cert.ReferenceIdeal.Score

open Cert.ReferenceIdeal Cert.ReferenceIdeal.Gen Cert.ReferenceIdeal.Value
open Idealize.ShloMosaic Idealize.ShloMosaic.TcCoe

variable (V0 : Valuation τ sig (Elt Ideal))

/-- The proposals. -/
abbrev props : FVec Ideal S20000x6 .f32 := V0 (Proc.devRef .tc main_arg0)
/-- The proposals' image numbers. -/
abbrev image : IVec S20000 32 := V0 (Proc.devRef .tc main_arg1)
/-- The ground-truth boxes. -/
abbrev boxes : FVec Ideal S4x8x6 .f32 := V0 (Proc.devRef .tc main_arg2)

/-- Whether proposal `p` is of image `i`. -/
abbrev isOf (i : Fin 4) (p : Fin 20000) : BitVec 1 := IntOp.cmpi .eq (image V0 (ix1 p)) (BitVec.ofNat 32 i.val)

/-- The masked overlap. -/
abbrev overlap (i : Fin 4) (p : Fin 20000) (g : Fin 8) : EReal :=
  Cert.Score.iou (isOf V0 i p) (fun k => boxes V0 (ix3 i g k)) (fun k => props V0 (ix2 p k))

/-- The reference's masked overlaps. -/
theorem v107_apply (i : Fin 4) (g : Fin 8) (p : Fin 20000) : res_main_v107 V0 (ix3 i g p) = overlap V0 i p g := by
  have h : res_main_v63 V0 (ix3 i g p) = Cert.Score.inter (fun k => boxes V0 (ix3 i g k)) (fun k => props V0 (ix2 p k)) := by
    pointwise [res_main_v63, res_main_v6, res_main_v7, id_eq]
    simp only [max_comm (0 : EReal)]
    rfl
  pointwise [res_main_v107, res_main_v5, res_main_v0, res_main_v6, res_main_v7, id_eq, h]
  rfl

/-- The greatest of a proposal's masked overlaps, as the reference's reduction folds it. -/
theorem fold_overlap (b : EReal) (i : Fin 4) (p : Fin 20000) :
    Finset.fold max b (res_main_v107 V0) (Finset.univ.filter fun x => reducesTo_S4x8x20000_S4x20000_d1.drop x = ix2 i p)
      = Finset.univ.fold max b (overlap V0 i p) :=
  (Shape.ReducesTo.fold_fiber_r3_a1 (n0 := 4) (n1 := 8) (n2 := 20000) reducesTo_S4x8x20000_S4x20000_d1 (ix2 i p) max b (res_main_v107 V0)).trans
    (congrArg (fun f => Finset.univ.fold max b f) (funext fun g => v107_apply V0 i g p))

/-- The reference's positive scores, before they are flattened. -/
def posRef : FVec Ideal S4x8x20000 .f32 :=
  select (andi (res_main_v114 V0) (cmpf .oge (res_main_v107 V0) (broadcastInDim S4x8x20000 ![] bcast_S_S4x8x20000 (constant S_ .f32 0x3DCCCCCD#32)))) (res_main_v107 V0) (broadcastInDim S4x8x20000 ![1, 2] bcast_S8x20000_S4x8x20000_1_2 (broadcastInDim S8x20000 ![] bcast_S_S8x20000 (id (constant S_ .f32 0xCE6E6B28#32))))

/-- The reference's negative scores, before they are flattened. -/
def negRef : FVec Ideal S4x8x20000 .f32 :=
  select (andi (andi (res_main_v114 V0) (cmpf .olt (res_main_v107 V0) (broadcastInDim S4x8x20000 ![] bcast_S_S4x8x20000 (constant S_ .f32 0x3CA3D70A#32)))) (cmpf .oge (res_main_v107 V0) (broadcastInDim S4x8x20000 ![] bcast_S_S4x8x20000 (constant S_ .f32 0x00000000#32)))) (Host.negf (res_main_v107 V0)) (broadcastInDim S4x8x20000 ![1, 2] bcast_S8x20000_S4x8x20000_1_2 (broadcastInDim S8x20000 ![] bcast_S_S8x20000 (id (constant S_ .f32 0xCE6E6B28#32))))

/-- Flattened, they are what the reference sorts. -/
theorem v125_eq : res_main_v125 V0 = shapeCast S4x160000 (posRef V0) shapeCasts_S4x8x20000_S4x160000 := rfl

/-- Flattened, they are what the reference sorts. -/
theorem v128_eq : res_main_v128 V0 = shapeCast S4x160000 (negRef V0) shapeCasts_S4x8x20000_S4x160000 := rfl

/-- The reference's positive scores at an index. -/
theorem posRef_apply (i : Fin 4) (g : Fin 8) (p : Fin 20000) : posRef V0 (ix3 i g p) = Cert.Score.pos (isOf V0 i p) (overlap V0 i p) g := by
  pointwise [posRef, res_main_v114, res_main_v5, res_main_v0, id_eq, v107_apply]
  rw [fold_overlap]
  rfl

/-- The reference's negative scores at an index. -/
theorem negRef_apply (i : Fin 4) (g : Fin 8) (p : Fin 20000) : negRef V0 (ix3 i g p) = Cert.Score.neg (isOf V0 i p) (overlap V0 i p) g := by
  pointwise [negRef, res_main_v114, res_main_v5, res_main_v0, id_eq, v107_apply]
  rw [fold_overlap]
  rfl

end Cert.ReferenceIdeal.Score

end
-- ==== Proof.Arrays0.lean ====
/- What the first kernel leaves in its two output arrays: every box's score against every proposal, per image. -/
module

public import proofs.«01_k».proof.Proof.Score
public import Idealize.ShloMosaic.Lib.Pipeline.ValueKit
public import Idealize.ShloMosaic.Lib.StableHlo.RunRead

@[expose] public section

set_option maxRecDepth 16384

noncomputable section

namespace Cert.KernelIdeal.Arrays

open Cert.KernelIdeal Cert.KernelIdeal.Gen
open Idealize.ShloMosaic Idealize.ShloMosaic.TcCoe Idealize.ShloMosaic.Pipeline Idealize.ShloMosaic.StableHlo

variable (V : (c : Dev nD) → (b : Ref sig .tc) → Buf (Elt Ideal) ((c : Thread nD τ).loc b))

/-- Whether proposal `p` is of image `i`, from the row of image numbers. -/
abbrev isOf (x1 : IVec S1x20000 32) (i : Fin 4) (p : Fin 20000) : BitVec 1 := IntOp.cmpi .eq (x1 (ix2 0 p)) (BitVec.ofNat 32 i.val)

/-- The masked overlap of a box and a proposal. -/
abbrev overlap (x0 : FVec Ideal S6x20000 .f32) (x1 : IVec S1x20000 32) (x2 : FVec Ideal S4x8x6 .f32) (i : Fin 4) (p : Fin 20000) (g : Fin 8) : EReal :=
  Cert.Score.iou (isOf x1 i p) (fun k => x2 (ix3 i g k)) (fun k => x0 (ix2 k p))

/-- All positive scores. -/
def posArr (x0 : FVec Ideal S6x20000 .f32) (x1 : IVec S1x20000 32) (x2 : FVec Ideal S4x8x6 .f32) : FVec Ideal S4x8x20000 .f32 :=
  fun j => Cert.Score.pos (isOf x1 (j 0) (j 2)) (overlap x0 x1 x2 (j 0) (j 2)) (j 1)

/-- All negative scores. -/
def negArr (x0 : FVec Ideal S6x20000 .f32) (x1 : IVec S1x20000 32) (x2 : FVec Ideal S4x8x6 .f32) : FVec Ideal S4x8x20000 .f32 :=
  fun j => Cert.Score.neg (isOf x1 (j 0) (j 2)) (overlap x0 x1 x2 (j 0) (j 2)) (j 1)

/-- The first two inputs are whole at every grid point. -/
theorem index0_0 : ∀ t : Fin cfg0.N, win0_0.index t = ![0, 0] := (by decide +kernel : ∀ t : Fin grid0.N, _)
/-- The first two inputs are whole at every grid point. -/
theorem index0_1 : ∀ t : Fin cfg0.N, win0_1.index t = ![0, 0] := (by decide +kernel : ∀ t : Fin grid0.N, _)
/-- A grid point's boxes are its image's. -/
theorem index0_2 : ∀ t : Fin cfg0.N, win0_2.index t = ![(grid0.coords t 0).val, 0, 0] := (by decide +kernel : ∀ t : Fin grid0.N, _)
/-- A grid point's scores are its image's. -/
theorem index0_3 : ∀ t : Fin cfg0.N, win0_3.index t = ![(grid0.coords t 0).val, 0, 0] := (by decide +kernel : ∀ t : Fin grid0.N, _)
/-- A grid point's scores are its image's. -/
theorem index0_4 : ∀ t : Fin cfg0.N, win0_4.index t = ![(grid0.coords t 0).val, 0, 0] := (by decide +kernel : ∀ t : Fin grid0.N, _)

/-- The grid has four points, one per image. -/
theorem coord_lt (t : Fin cfg0.N) : (grid0.coords t 0).val < 4 := (grid0.coords t 0).isLt

/-- The proposals as a grid point sees them. -/
theorem in0 (c : Dev nD) (t : Fin cfg0.N) (k : Fin 6) (p : Fin 20000) :
    (iblk0 V c 0 t : FVec Ideal S6x20000 .f32) (ix2 k p) = (V c main_call0_v0 : FVec Ideal S6x20000 .f32) (ix2 k p) := by
  blk_simp [iblk0]
  refine congrArg (V c main_call0_v0) ?_
  blk_ext [index0_0]

/-- The image numbers as a grid point sees them. -/
theorem in1 (c : Dev nD) (t : Fin cfg0.N) (k : Fin 1) (p : Fin 20000) :
    (iblk0 V c 1 t : IVec S1x20000 32) (ix2 k p) = (V c main_call0_v1 : IVec S1x20000 32) (ix2 k p) := by
  blk_simp [iblk0]
  refine congrArg (V c main_call0_v1) ?_
  blk_ext [index0_1]

/-- The boxes as a grid point sees them. -/
theorem in2 (c : Dev nD) (t : Fin cfg0.N) (g : Fin 8) (k : Fin 6) :
    (iblk0 V c 2 t : FVec Ideal S1x8x6 .f32) (ix3 0 g k) = (V c main_arg2 : FVec Ideal S4x8x6 .f32) (ix3 (grid0.coords t 0) g k) := by
  blk_simp [iblk0]
  refine congrArg (V c main_arg2) ?_
  blk_ext [index0_2]

/-- An index of a block of one image. -/
theorem unit_ix3 (y : S1x8x20000.Idx) : y = ix3 0 (y 1) (y 2) := by
  funext a
  match a with
  | 0 => exact Fin.ext (Nat.lt_one_iff.mp (y 0).isLt)
  | 1 => rfl
  | 2 => rfl

/-- A block of positive scores, from inputs that hold the arrays' elements. -/
theorem block3 (i : grid0.Coords) (x0 : Vec Ideal S6x20000 .f32) (x1 : Vec Ideal S1x20000 .i32) (x2 : Vec Ideal S1x8x6 .f32)
    (X0 : FVec Ideal S6x20000 .f32) (X1 : IVec S1x20000 32) (X2 : FVec Ideal S4x8x6 .f32)
    (h0 : ∀ k p, x0 (ix2 k p) = X0 (ix2 k p)) (h1 : ∀ p, x1 (ix2 0 p) = X1 (ix2 0 p)) (h2 : ∀ g k, x2 (ix3 0 g k) = X2 (ix3 (i 0) g k))
    (y : S1x8x20000.Idx) (g : Fin 8) (p : Fin 20000) (hy : y = ix3 0 g p) (z : S4x8x20000.Idx) (hz : z = ix3 (i 0) g p) :
    out0_3 i x0 x1 x2 y = posArr X0 X1 X2 z := by
  subst hz hy
  refine (Score.out0_3_apply i x0 x1 x2 g p).trans ?_
  simp only [h0, h1, h2]
  rfl

/-- A block of negative scores, from inputs that hold the arrays' elements. -/
theorem block4 (i : grid0.Coords) (x0 : Vec Ideal S6x20000 .f32) (x1 : Vec Ideal S1x20000 .i32) (x2 : Vec Ideal S1x8x6 .f32)
    (X0 : FVec Ideal S6x20000 .f32) (X1 : IVec S1x20000 32) (X2 : FVec Ideal S4x8x6 .f32)
    (h0 : ∀ k p, x0 (ix2 k p) = X0 (ix2 k p)) (h1 : ∀ p, x1 (ix2 0 p) = X1 (ix2 0 p)) (h2 : ∀ g k, x2 (ix3 0 g k) = X2 (ix3 (i 0) g k))
    (y : S1x8x20000.Idx) (g : Fin 8) (p : Fin 20000) (hy : y = ix3 0 g p) (z : S4x8x20000.Idx) (hz : z = ix3 (i 0) g p) :
    out0_4 i x0 x1 x2 y = negArr X0 X1 X2 z := by
  subst hz hy
  refine (Score.out0_4_apply i x0 x1 x2 g p).trans ?_
  simp only [h0, h1, h2]
  rfl

/-- The positive scores' array. -/
theorem arr3 (c : Dev nD) : (dat0 V c).arrAt 3 cfg0.N = posArr (V c main_call0_v0) (V c main_call0_v1) (V c main_arg2) := by
  refine (dat0 V c).arrAt_eq_of_covers 3 _ (by decide +kernel) fun t hf y => ?_
  blk_simp
  rw [after0_3]
  exact block3 (grid0.coords t) _ _ _ _ _ _ (in0 V c t) (fun p => in1 V c t 0 p) (in2 V c t) y (y 1) (y 2) (unit_ix3 y) _ (by blk_ext [index0_3])

/-- The negative scores' array. -/
theorem arr4 (c : Dev nD) : (dat0 V c).arrAt 4 cfg0.N = negArr (V c main_call0_v0) (V c main_call0_v1) (V c main_arg2) := by
  refine (dat0 V c).arrAt_eq_of_covers 4 _ (by decide +kernel) fun t hf y => ?_
  blk_simp
  rw [after0_4]
  exact block4 (grid0.coords t) _ _ _ _ _ _ (in0 V c t) (fun p => in1 V c t 0 p) (in2 V c t) y (y 1) (y 2) (unit_ix3 y) _ (by blk_ext [index0_4])

variable (m : (ℓ : Loc nD τ sig) → Buf (Elt Ideal) ℓ) (ρ : Dev nD → PrngReg)

/-- The kernel transposes the proposals. -/
theorem read_props (W : Valuation τ sig (Elt Ideal)) (k : Fin 6) (p : Fin 20000) :
    (StableHlo.after hostOps0 W (Proc.devRef .tc main_call0_v0) : FVec Ideal S6x20000 .f32) (ix2 k p)
      = (W (Proc.devRef .tc main_arg0) : FVec Ideal S20000x6 .f32) (ix2 p k) := by
  simp only [hostOps0, TRef.nullary, TRef.unary, TRef.binary, TRef.ternary, TRef.reshape, TRef.toBuf, TRef.ofBuf, cast_eq]
  after_reads_simp
  pointwise []

/-- The kernel lays the image numbers out as a row. -/
theorem read_image (W : Valuation τ sig (Elt Ideal)) (p : Fin 20000) :
    (StableHlo.after hostOps0 W (Proc.devRef .tc main_call0_v1) : IVec S1x20000 32) (ix2 0 p)
      = (W (Proc.devRef .tc main_arg1) : IVec S20000 32) (ix1 p) := by
  simp only [hostOps0, TRef.nullary, TRef.unary, TRef.binary, TRef.ternary, TRef.reshape, TRef.toBuf, TRef.ofBuf, cast_eq]
  after_reads_simp
  pointwise []

end Cert.KernelIdeal.Arrays

end
-- ==== Proof.KHost.lean ====
/- The kernel's host operations between its two kernels, read as functions of the arrays the first kernel leaves and of
   the arguments: which flat positions are picked, the box and the proposal each one names, and the rows taken there. -/
module

public import proofs.«01_k».proof.Proof.Gen.KernelIdeal.Launch
public import Idealize.ShloMosaic.Lib.StableHlo.RunRead
public import Idealize.ShloMosaic.Lib.Pipeline.Frame
public import Idealize.ShloMosaic.PureOps.Ideal

@[expose] public section

set_option maxRecDepth 16384

noncomputable section

namespace Cert.KernelIdeal.Host

open Cert.KernelIdeal Cert.KernelIdeal.Gen
open Idealize.ShloMosaic Idealize.ShloMosaic.TcCoe Idealize.ShloMosaic.StableHlo

variable {F : FTy → Type} [FloatOps F] [Named F]

/-- The 64 greatest positive scores' positions and then the 192 greatest negative scores', per image, in the flattened
    8 x 20000 score arrays. -/
def flat (p n : FVec F S4x8x20000 .f32) : IVec S4x256 32 :=
  concatenate S4x256 1
    [⟨S4x64, (Host.topK S4x64 1 (FloatOps.cmpfTotal (F := F) .gt) (shapeCast S4x160000 p shapeCasts_S4x8x20000_S4x160000) sliceFits_S4x160000_S4x64).2⟩,
     ⟨S4x192, (Host.topK S4x192 1 (FloatOps.cmpfTotal (F := F) .gt) (shapeCast S4x160000 n shapeCasts_S4x8x20000_S4x160000) sliceFits_S4x160000_S4x192).2⟩]
    concatenates_S4x64_S4x192_S4x256_d1

/-- An integer at every place of a 4 x 256 array. -/
abbrev fill (v : IVec S_ 32) : IVec S4x256 32 := broadcastInDim S4x256 ![] bcast_S_S4x256 v

/-- The ground-truth box a flat position names: its floor quotient by the number of proposals. -/
def gtOf (x : IVec S4x256 32) : IVec S4x256 32 :=
  let d : IVec S_ 32 := id (constantI S_ 32 20000#32)
  let q := Host.divsi x (fill d)
  select (andi (cmpi .ne (signi x) (fill (signi d))) (cmpi .ne (Host.remsi x (fill d)) (fill (constantI S_ 32 0#32))))
    (subi q (fill (constantI S_ 32 1#32))) q

/-- The proposal a flat position names: its remainder by the number of proposals, of the divisor's sign. -/
def roiOf (x : IVec S4x256 32) : IVec S4x256 32 :=
  let d₀ : IVec S_ 32 := id (constantI S_ 32 20000#32)
  let d : IVec S_ 32 := select (cmpi .eq d₀ (constantI S_ 32 0#32)) (constantI S_ 32 1#32) d₀
  let r := Host.remsi x (fill d)
  select (andi (cmpi .ne (cmpi .slt r (fill (constantI S_ 32 0#32)))
        (broadcastInDim S4x256 ![] bcast_S_S4x256 (cmpi .slt d (constantI S_ 32 0#32))))
      (cmpi .ne r (fill (constantI S_ 32 0#32))))
    (addi r (fill d)) r

/-- An index counted from the end when negative, on the flattened list of picks. -/
def roiIx (r : IVec S4x256 32) : IVec S1024x1 32 :=
  let r' : IVec S1024 32 := shapeCast S1024 r shapeCasts_S4x256_S1024
  broadcastInDim S1024x1 ![0] bcast_S1024_S1024x1_0
    (select (cmpi .slt r' (broadcastInDim S1024 ![] bcast_S_S1024 (constantI S_ 32 0#32)))
      (addi r' (broadcastInDim S1024 ![] bcast_S_S1024 (constantI S_ 32 20000#32))) r')

/-- The proposals' rows at the picks; a row outside the array is filled with a fixed pattern. -/
def roisOf (props : FVec F S20000x6 .f32) (r : IVec S4x256 32) : FVec F S1024x6 .f32 :=
  let i := roiIx r
  select (broadcastInDim S1024x6 ![0] bcast_S1024_S1024x6_0
      (Host.reduce IntOp.andi
        (andi (cmpi .sge i (broadcastInDim S1024x1 ![] bcast_S_S1024x1 (constantI S_ 32 0#32)))
          (cmpi .sle i (broadcastInDim S1024x1 ![0, 1] bcast_S1x1_S1024x1_0_1 (broadcastInDim S1x1 ![1] bcast_S1_S1x1_1 (constantI S1 32 19999#32)))))
        (constantI S_ 1 1#1) reducesTo_S1024x1_S1024_d1 h_S_))
    (Host.gather gather_S20000x6_S1024x1_S1024x6_1_0_n_n_0_1_16 props i)
    (broadcastInDim S1024x6 ![] bcast_S_S1024x6 (constant S_ .f32 0x7FC00000#32))

/-- Whether each ground-truth index lies inside its axis of eight. -/
def inEight (i : IVec S4x256x1 32) : IVec S4x256 1 :=
  Host.reduce IntOp.andi
    (andi (cmpi .sge i (broadcastInDim S4x256x1 ![] bcast_S_S4x256x1 (constantI S_ 32 0#32)))
      (cmpi .sle i (broadcastInDim S4x256x1 ![0, 1, 2] bcast_S1x1x1_S4x256x1_0_1_2 (broadcastInDim S1x1x1 ![2] bcast_S1_S1x1x1_2 (constantI S1 32 7#32)))))
    (constantI S_ 1 1#1) reducesTo_S4x256x1_S4x256_d2 h_S_

/-- The index of a pick's box, counted from the end when negative, as the boxes' gather takes it. -/
def boxIx (g : IVec S4x256 32) : IVec S4x256x1 32 :=
  let g' : IVec S4x256x1 32 := broadcastInDim S4x256x1 ![0, 1] bcast_S4x256_S4x256x1_0_1 g
  select (cmpi .slt g' (broadcastInDim S4x256x1 ![] bcast_S_S4x256x1 (constantI S_ 32 0#32)))
    (addi g' (broadcastInDim S4x256x1 ![] bcast_S_S4x256x1 (constantI S_ 32 8#32))) g'

/-- The ground-truth boxes at the picks. -/
def boxesOf (gt : FVec F S4x8x6 .f32) (g : IVec S4x256 32) : FVec F S4x256x6 .f32 :=
  select (broadcastInDim S4x256x6 ![0, 1] bcast_S4x256_S4x256x6_0_1 (inEight (boxIx g)))
    (Host.gather gather_S4x8x6_S4x256x1_S4x256x6_2_1_0_0_1_2_116 gt (boxIx g))
    (broadcastInDim S4x256x6 ![] bcast_S_S4x256x6 (constant S_ .f32 0x7FC00000#32))

/-- The same index as the labels' gather takes it. -/
def labelIx (g : IVec S4x256 32) : IVec S4x256x1 32 :=
  shapeCast S4x256x1 (select (cmpi .slt g (fill (constantI S_ 32 0#32))) (addi g (fill (constantI S_ 32 8#32))) g) shapeCasts_S4x256_S4x256x1

/-- The labels at the picks, those of the negative picks set to zero. -/
def labelsOf (lab : IVec S4x8 32) (g : IVec S4x256 32) : IVec S1024 32 :=
  shapeCast S1024
    (Host.scatter scatter_S4x256_S1_S4x192_01_n_1_0 (fun _ b => b)
      (select (inEight (labelIx g)) (Host.gather gather_S4x8_S4x256x1_S4x256_n_1_0_0_1_2_11 lab (labelIx g))
        (fill (constantI S_ 32 2147483648#32)))
      (broadcastInDim S1 ![] bcast_S_S1 (constantI S_ 32 64#32))
      (broadcastInDim S4x192 ![] bcast_S_S4x192 (constantI S_ 32 0#32)))
    shapeCasts_S4x256_S1024

/-- The three parts of the line of host operations: the picks, their two indices, the rest. -/
theorem split (W : Valuation τ sig (Elt F)) :
    StableHlo.after hostOps1 W
      = StableHlo.after (hostOps1.drop 47) (StableHlo.after ((hostOps1.drop 7).take 40) (StableHlo.after (hostOps1.take 7) W)) := by
  rw [← after_append, ← after_append]
  rfl

set_option maxHeartbeats 4000000 in
/-- The picks. -/
theorem read_flat (W : Valuation τ sig (Elt F)) :
    StableHlo.after (hostOps1.take 7) W (Proc.devRef .tc main_call0_v5)
      = flat (W (Proc.devRef .tc main_call0_v2_0)) (W (Proc.devRef .tc main_call0_v2_1)) := by
  simp only [hostOps1, List.take_succ_cons, List.take_zero, List.drop_succ_cons, List.drop_zero, TRef.nullary, TRef.unary, TRef.binary, TRef.ternary, TRef.reshape,
    TRef.toBuf, TRef.ofBuf, cast_eq]
  after_reads_simp
  refine congrArg₂ (fun a b => concatenate S4x256 1 [⟨S4x64, a⟩, ⟨S4x192, b⟩] concatenates_S4x64_S4x192_S4x256_d1) ?_ ?_ <;>
    after_reads_simp <;> rfl

set_option maxHeartbeats 4000000 in
/-- The boxes' indices. -/
theorem read_gt (W : Valuation τ sig (Elt F)) :
    StableHlo.after ((hostOps1.drop 7).take 40) W (Proc.devRef .tc main_call0_v6)
      = gtOf (W (Proc.devRef .tc main_call0_v5)) := by
  simp only [hostOps1, List.take_succ_cons, List.take_zero, List.drop_succ_cons, List.drop_zero, TRef.nullary, TRef.unary, TRef.binary, TRef.ternary, TRef.reshape,
    TRef.toBuf, TRef.ofBuf, cast_eq]
  after_reads_simp
  rfl

set_option maxHeartbeats 4000000 in
/-- The proposals' indices. -/
theorem read_roi (W : Valuation τ sig (Elt F)) :
    StableHlo.after ((hostOps1.drop 7).take 40) W (Proc.devRef .tc main_call0_v7)
      = roiOf (W (Proc.devRef .tc main_call0_v5)) := by
  simp only [hostOps1, List.take_succ_cons, List.take_zero, List.drop_succ_cons, List.drop_zero, TRef.nullary, TRef.unary, TRef.binary, TRef.ternary, TRef.reshape,
    TRef.toBuf, TRef.ofBuf, cast_eq]
  after_reads_simp
  rfl

set_option maxHeartbeats 4000000 in
/-- The sampled proposals. -/
theorem read_rois (W : Valuation τ sig (Elt F)) :
    StableHlo.after (hostOps1.drop 47) W (Proc.devRef .tc main_v0_0)
      = roisOf (W (Proc.devRef .tc main_arg0)) (W (Proc.devRef .tc main_call0_v7)) := by
  simp only [hostOps1, List.take_succ_cons, List.take_zero, List.drop_succ_cons, List.drop_zero, TRef.nullary, TRef.unary, TRef.binary, TRef.ternary, TRef.reshape,
    TRef.toBuf, TRef.ofBuf, cast_eq]
  after_reads_simp
  rfl

set_option maxHeartbeats 4000000 in
/-- The labels. -/
theorem read_labels (W : Valuation τ sig (Elt F)) :
    StableHlo.after (hostOps1.drop 47) W (Proc.devRef .tc main_v0_2)
      = labelsOf (W (Proc.devRef .tc main_arg3)) (W (Proc.devRef .tc main_call0_v6)) := by
  simp only [hostOps1, List.take_succ_cons, List.take_zero, List.drop_succ_cons, List.drop_zero, TRef.nullary, TRef.unary, TRef.binary, TRef.ternary, TRef.reshape,
    TRef.toBuf, TRef.ofBuf, cast_eq]
  after_reads_simp
  rfl

set_option maxHeartbeats 4000000 in
/-- The second kernel's first operand. -/
theorem read_rois_in (W : Valuation τ sig (Elt F)) :
    StableHlo.after (hostOps1.drop 47) W (Proc.devRef .tc main_call0_v39)
      = shapeCast S1024x1x6 (roisOf (W (Proc.devRef .tc main_arg0)) (W (Proc.devRef .tc main_call0_v7))) shapeCasts_S1024x6_S1024x1x6 := by
  simp only [hostOps1, List.take_succ_cons, List.take_zero, List.drop_succ_cons, List.drop_zero, TRef.nullary, TRef.unary, TRef.binary, TRef.ternary, TRef.reshape,
    TRef.toBuf, TRef.ofBuf, cast_eq]
  after_reads_simp
  rfl

set_option maxHeartbeats 4000000 in
/-- The second kernel's second operand. -/
theorem read_boxes_in (W : Valuation τ sig (Elt F)) :
    StableHlo.after (hostOps1.drop 47) W (Proc.devRef .tc main_call0_v40)
      = shapeCast S1024x1x6 (boxesOf (W (Proc.devRef .tc main_arg2)) (W (Proc.devRef .tc main_call0_v6))) shapeCasts_S4x256x6_S1024x1x6 := by
  simp only [hostOps1, List.take_succ_cons, List.take_zero, List.drop_succ_cons, List.drop_zero, TRef.nullary, TRef.unary, TRef.binary, TRef.ternary, TRef.reshape,
    TRef.toBuf, TRef.ofBuf, cast_eq]
  after_reads_simp
  rfl

end Cert.KernelIdeal.Host

end
-- ==== Proof.KRepeat.lean ====
/- The image number of every sampled proposal: the kernel's host repeats each of the four image numbers 256 times, by a
   scatter of ones at the runs' starts, a running sum and a take. -/
module

public import proofs.«01_k».proof.Proof.KHost
public import Idealize.ShloMosaic.Lib.Routing.OpsSet
public import Idealize.ShloMosaic.Lib.ReduceAll

@[expose] public section

set_option maxRecDepth 16384

noncomputable section

namespace Cert.KernelIdeal.Host

open Cert.KernelIdeal Cert.KernelIdeal.Gen
open Idealize.ShloMosaic Idealize.ShloMosaic.TcCoe Idealize.ShloMosaic.StableHlo Idealize.ShloMosaic.ValueIdx

variable {F : FTy → Type} [FloatOps F] [Named F]

/-- The runs' lengths shifted by one place, the first set to zero. -/
def shifted : IVec S4 32 :=
  let l : IVec S4 32 := broadcastInDim S4 ![0] bcast_S1_S4_0 (shapeCast S1 (constantI S_ 32 256#32) shapeCasts_S_S1)
  Host.scatter scatter_S4_S1_S__n_0_0_0 (fun _ b => b)
    (id (concatenate S4 0 [⟨S1, extractStridedSlice S1 ![3] l slices_S4_S1_3⟩, ⟨S3, extractStridedSlice S3 ![0] l slices_S4_S3_0⟩] concatenates_S1_S3_S4_d0))
    (broadcastInDim S1 ![] bcast_S_S1 (constantI S_ 32 0#32)) (constantI S_ 32 0#32)

/-- The running sum of the shifted lengths: where each run starts. -/
def starts : IVec S4 32 :=
  Host.reduceWindow IntOp.addi ![4] ![1] ![3] ![0] (id (id shifted)) (broadcastInDim S_ ![] bcast_S_S_ (constantI S_ 32 0#32))
    reduceWindows_S4_S4_w4s1p3_0 h_S_

/-- The starts as the scatter takes them, counted from the end when negative. -/
def startIx (x : IVec S4 32) : IVec S4x1 32 :=
  broadcastInDim S4x1 ![0] bcast_S4_S4x1_0
    (select (cmpi .slt x (broadcastInDim S4 ![] bcast_S_S4 (constantI S_ 32 0#32))) (addi x (broadcastInDim S4 ![] bcast_S_S4 (constantI S_ 32 1024#32))) x)

/-- One at each start, zero elsewhere. -/
def marks (x : IVec S4 32) : IVec S1024 32 :=
  Host.scatter scatter_S1024_S4x1_S4_n_0_0_1 IntOp.addi (broadcastInDim S1024 ![] bcast_S_S1024 (constantI S_ 32 0#32)) (startIx x)
    (broadcastInDim S4 ![] bcast_S_S4 (constantI S_ 32 1#32))

/-- The running sum of the marks, less one: the run each place lies in. -/
def runOf (x : IVec S1024 32) : IVec S1024 32 :=
  subi (Host.reduceWindow IntOp.addi ![1024] ![1] ![1023] ![0] x (broadcastInDim S_ ![] bcast_S_S_ (constantI S_ 32 0#32))
    reduceWindows_S1024_S1024_w1024s1p1023_0 h_S_) (broadcastInDim S1024 ![] bcast_S_S1024 (constantI S_ 32 1#32))

/-- The run's number as the take's index, counted from the end when negative. -/
def runIx (r : IVec S1024 32) : IVec S1024x1 32 :=
  broadcastInDim S1024x1 ![0] bcast_S1024_S1024x1_0
    (select (cmpi .slt r (broadcastInDim S1024 ![] bcast_S_S1024 (constantI S_ 32 0#32)))
      (addi r (broadcastInDim S1024 ![] bcast_S_S1024 (constantI S_ 32 4#32))) r)

/-- The image numbers taken at the runs. -/
def takeOf (r : IVec S1024 32) : IVec S1024 32 :=
  select
    (Host.reduce IntOp.andi
      (andi (cmpi .sge (runIx r) (broadcastInDim S1024x1 ![] bcast_S_S1024x1 (constantI S_ 32 0#32)))
        (cmpi .sle (runIx r) (broadcastInDim S1024x1 ![0, 1] bcast_S1x1_S1024x1_0_1 (broadcastInDim S1x1 ![1] bcast_S1_S1x1_1 (constantI S1 32 3#32)))))
      (constantI S_ 1 1#1) reducesTo_S1024x1_S1024_d1 h_S_)
    (Host.gather gather_S4_S1024x1_S1024_n_0_n_n_0_1_1 (iotaInDim S4 32 0) (runIx r))
    (broadcastInDim S1024 ![] bcast_S_S1024 (constantI S_ 32 2147483648#32))

set_option maxHeartbeats 4000000 in
/-- The repeated image numbers depend on nothing. -/
theorem read_repeat (W : Valuation τ sig (Elt F)) :
    StableHlo.after (hostOps1.drop 47) W (Proc.devRef .tc main_v0_4) = takeOf (runOf (marks starts)) := by
  simp only [hostOps1, List.drop_succ_cons, List.drop_zero, TRef.nullary, TRef.unary, TRef.binary, TRef.ternary, TRef.reshape,
    TRef.toBuf, TRef.ofBuf, cast_eq]
  after_reads_simp
  rfl

/-- The starts are 0, 256, 512, 768. -/
theorem starts_eq : starts = fun j => BitVec.ofNat 32 (256 * (j 0).val) := by
  have h : ∀ i : Fin 4, starts (ix1 i) = BitVec.ofNat 32 (256 * i.val) := by decide +kernel
  exact funext fun j => by rw [eq_ix1 j]; exact h (j 0)

/-- The four updates land at the four starts. -/
theorem marks_land : ∀ n : Fin 4, scatter_S1024_S4x1_S4_n_0_0_1.resultIdx? (S4.rowMajor.symm n) (startIx fun j => BitVec.ofNat 32 (256 * (j 0).val))
    = some (ix1 ⟨256 * n.val, by omega⟩) := by
  decide +kernel

/-- A scatter whose updates land at known elements is the fold of the updates there. -/
theorem scatter_known {s si u : Shape} {w : Nat} (d : ScatterDims s si u) (f : BitVec 32 → BitVec 32 → BitVec 32) (x : IVec s 32) (ix : IVec si w)
    (upd : IVec u 32) (k : Fin u.numel → s.Idx) (h : ∀ n, d.resultIdx? (u.rowMajor.symm n) ix = some (k n)) :
    Host.scatter d f x ix upd
      = (List.finRange u.numel).foldl (fun r n => fun j => if j = k n then f (r (k n)) (upd (u.rowMajor.symm n)) else r j) x := by
  unfold Host.scatter
  congr 1
  funext r n
  rw [h n]

/-- The marks. -/
theorem marks_apply (i : Fin 1024) : marks starts (ix1 i) = BitVec.ofNat 32 (if i.val % 256 = 0 then 1 else 0) := by
  rw [starts_eq]
  have e : ∀ k : Fin 1024, ((ix1 i : S1024.Idx) = ix1 k) = (i.val = k.val) := fun k =>
    propext ⟨fun h => congrArg (fun j : S1024.Idx => (j 0).val) h, fun h => by rw [Fin.ext h]⟩
  have hm : marks (fun j => BitVec.ofNat 32 (256 * (j 0).val)) = _ :=
    scatter_known scatter_S1024_S4x1_S4_n_0_0_1 IntOp.addi _ _ _ (fun n : Fin 4 => ix1 ⟨256 * n.val, by omega⟩) marks_land
  rw [hm]
  show ([0, 1, 2, 3] : List (Fin 4)).foldl (fun r n => fun j => if j = (ix1 ⟨256 * n.val, by omega⟩ : S1024.Idx) then
    IntOp.addi (r (ix1 ⟨256 * n.val, by omega⟩)) 1#32 else r j) (fun _ => 0#32) (ix1 i) = _
  simp only [List.foldl_cons, List.foldl_nil, e]
  have f : ∀ a b : Fin 1024, ((ix1 a : S1024.Idx) = ix1 b) = (a.val = b.val) := fun a b =>
    propext ⟨fun h => congrArg (fun j : S1024.Idx => (j 0).val) h, fun h => by rw [Fin.ext h]⟩
  simp only [f]
  have hi := i.isLt
  by_cases c0 : i.val = 0
  · simp [c0]; rfl
  by_cases c1 : i.val = 256
  · simp [c1]; rfl
  by_cases c2 : i.val = 512
  · simp [c2]; rfl
  by_cases c3 : i.val = 768
  · simp [c3]; rfl
  rw [if_neg (by simpa using c3), if_neg (by simpa using c2), if_neg (by simpa using c1), if_neg (by simpa using c0), if_neg (by omega)]

/-- How many multiples of 256 there are up to a place. -/
theorem sum_marks : ∀ n : Nat, ((List.range (n + 1)).map fun k => if k % 256 = 0 then 1 else 0).sum = n / 256 + 1
  | 0 => rfl
  | n + 1 => by
    rw [List.range_succ, List.map_append, List.sum_append, sum_marks n]
    simp only [List.map_cons, List.map_nil, List.sum_cons, List.sum_nil]
    split <;> omega

/-- Place `i` lies in run `i / 256`. -/
theorem runOf_apply (i : Fin 1024) : runOf (marks starts) (ix1 i) = BitVec.ofNat 32 (i.val / 256) := by
  have e := Routing.cumsum1 (N := 1024) (Nm1 := 1023) rfl (marks starts) (fun k => if k % 256 = 0 then 1 else 0) marks_apply
    (broadcastInDim S_ ![] bcast_S_S_ (constantI S_ 32 0#32)) rfl reduceWindows_S1024_S1024_w1024s1p1023_0 h_S_ i
  rw [sum_marks] at e
  unfold runOf
  generalize Host.reduceWindow IntOp.addi _ _ _ _ (marks starts) _ _ _ = y at e ⊢
  show y (ix1 i) - 1#32 = _
  rw [e]
  have hi := i.isLt
  apply BitVec.eq_of_toNat_eq
  rw [BitVec.toNat_sub, BitVec.toNat_ofNat, BitVec.toNat_ofNat, BitVec.toNat_ofNat]
  omega

/-- Every sampled proposal's image number. -/
theorem repeat_eq : takeOf (runOf (marks starts)) = fun j => BitVec.ofNat 32 ((j 0).val / 256) := by
  have h : runOf (marks starts) = fun j => BitVec.ofNat 32 ((j 0).val / 256) := funext fun j => by
    rw [eq_ix1 j]; exact runOf_apply (j 0)
  rw [h]
  have hx : ∀ i : Fin 1024, runIx (fun j => BitVec.ofNat 32 ((j 0).val / 256)) (ix2 i (0 : Fin 1)) = BitVec.ofNat 32 (i.val / 256) := fun i => by
    refine (Routing.bcCol bcast_S1024_S1024x1_0 _ i).trans ?_
    show Scalar.select (IntOp.cmpi .slt (BitVec.ofNat 32 (i.val / 256)) 0#32) (IntOp.addi (BitVec.ofNat 32 (i.val / 256)) 4#32) (BitVec.ofNat 32 (i.val / 256)) = _
    have : ∀ n : Fin 4, Scalar.select (IntOp.cmpi .slt (BitVec.ofNat 32 n.val) 0#32) (IntOp.addi (BitVec.ofNat 32 n.val) 4#32) (BitVec.ofNat 32 n.val) = BitVec.ofNat 32 n.val := by
      decide
    exact this ⟨i.val / 256, by omega⟩
  have k : ∀ i : Fin 1024, takeOf (fun j => BitVec.ofNat 32 ((j 0).val / 256)) (ix1 i) = BitVec.ofNat 32 (i.val / 256) := fun i => by
    generalize (fun j : S1024.Idx => BitVec.ofNat 32 ((j 0).val / 256)) = r at hx ⊢
    unfold takeOf
    have hg := Routing.gather_take1 gather_S4_S1024x1_S1024_n_0_n_n_0_1_1 rfl rfl rfl rfl (iotaInDim S4 32 0) (runIx r) i ⟨i.val / 256, by omega⟩ (hx i) (by decide)
    have hr := Host.reduce_andi_one
      (andi (cmpi .sge (runIx r) (broadcastInDim S1024x1 ![] bcast_S_S1024x1 (constantI S_ 32 0#32)))
        (cmpi .sle (runIx r) (broadcastInDim S1024x1 ![0, 1] bcast_S1x1_S1024x1_0_1 (broadcastInDim S1x1 ![1] bcast_S1_S1x1_1 (constantI S1 32 3#32)))))
      (constantI S_ 1 1#1) reducesTo_S1024x1_S1024_d1 h_S_ (ix1 i) rfl (fun j => by
        have hj : j = ix2 (j 0) (0 : Fin 1) := by
          refine funext fun a => ?_
          match a with
          | ⟨0, _⟩ => rfl
          | ⟨1, _⟩ => exact Fin.ext (Nat.lt_one_iff.mp (j 1).isLt)
        rw [hj]
        show IntOp.andi (IntOp.cmpi .sge (runIx r (ix2 (j 0) (0 : Fin 1))) 0#32) (IntOp.cmpi .sle (runIx r (ix2 (j 0) (0 : Fin 1))) 3#32) = 1#1
        rw [hx (j 0)]
        have : ∀ n : Fin 4, IntOp.andi (IntOp.cmpi .sge (BitVec.ofNat 32 n.val) 0#32) (IntOp.cmpi .sle (BitVec.ofNat 32 n.val) 3#32) = 1#1 := by
          decide
        have h0 : (j 0).val < 1024 := (j 0).isLt
        exact this ⟨(j 0).val / 256, by omega⟩)
    show Scalar.select _ _ _ = _
    rw [hr, hg]
    rfl
  exact funext fun j => by rw [eq_ix1 j]; exact k (j 0)

end Cert.KernelIdeal.Host

end
-- ==== Proof.Reads.lean ====
/- The contents at the boundaries between the kernel's regions, and at its end, as functions of the arguments. -/
module

public import proofs.«01_k».proof.Proof.Arrays0
public import proofs.«01_k».proof.Proof.KHost
public import proofs.«01_k».proof.Proof.KRepeat

@[expose] public section

set_option maxRecDepth 16384

noncomputable section

namespace Cert.KernelIdeal.Reads

open Cert.KernelIdeal Cert.KernelIdeal.Gen
open Idealize.ShloMosaic Idealize.ShloMosaic.TcCoe Idealize.ShloMosaic.Pipeline Idealize.ShloMosaic.StableHlo

variable (m : (ℓ : Loc nD τ sig) → Buf (Elt Ideal) ℓ) (ρ : Dev nD → PrngReg)

/-- The proposals. -/
abbrev props (c : Dev nD) : FVec Ideal S20000x6 .f32 := m ((c : Thread nD τ).loc main_arg0)
/-- The proposals' image numbers. -/
abbrev image (c : Dev nD) : IVec S20000 32 := m ((c : Thread nD τ).loc main_arg1)
/-- The ground-truth boxes. -/
abbrev boxes (c : Dev nD) : FVec Ideal S4x8x6 .f32 := m ((c : Thread nD τ).loc main_arg2)
/-- The ground-truth labels. -/
abbrev labels (c : Dev nD) : IVec S4x8 32 := m ((c : Thread nD τ).loc main_arg3)
/-- The ground-truth masks. -/
abbrev vols (c : Dev nD) : FVec Ideal S4x64x64x64 .f32 := m ((c : Thread nD τ).loc main_arg4)

/-- The first kernel's proposals, at an index. -/
theorem entry_props (c : Dev nD) (k : Fin 6) (p : Fin 20000) :
    (V1 m ρ c main_call0_v0 : FVec Ideal S6x20000 .f32) (ix2 k p) = props m c (ix2 p k) :=
  Arrays.read_props (W0 m ρ c) k p

/-- The first kernel's image numbers, at an index. -/
theorem entry_image (c : Dev nD) (p : Fin 20000) :
    (V1 m ρ c main_call0_v1 : IVec S1x20000 32) (ix2 0 p) = image m c (ix1 p) :=
  Arrays.read_image (W0 m ρ c) p

/-- The first kernel's boxes. -/
theorem entry_boxes (c : Dev nD) : (V1 m ρ c main_arg2 : FVec Ideal S4x8x6 .f32) = boxes m c :=
  W1_args m ρ c main_arg2 (by decide)

/-- Whether a proposal is of an image, the kernel's and the reference's row of image numbers alike. -/
theorem isOf_eq (c : Dev nD) (V0 : Valuation Cert.ReferenceIdeal.τ Cert.ReferenceIdeal.sig (Elt Ideal))
    (h1 : Cert.ReferenceIdeal.Score.image V0 = image m c) (i : Fin 4) (p : Fin 20000) :
    Arrays.isOf (V1 m ρ c main_call0_v1) i p = Cert.ReferenceIdeal.Score.isOf V0 i p :=
  congrArg (fun x => IntOp.cmpi .eq x (BitVec.ofNat 32 i.val)) ((entry_image m ρ c p).trans (congrFun h1 (ix1 p)).symm)

/-- The masked overlaps alike. -/
theorem overlap_eq (c : Dev nD) (V0 : Valuation Cert.ReferenceIdeal.τ Cert.ReferenceIdeal.sig (Elt Ideal))
    (h0 : Cert.ReferenceIdeal.Score.props V0 = props m c) (h1 : Cert.ReferenceIdeal.Score.image V0 = image m c)
    (h2 : Cert.ReferenceIdeal.Score.boxes V0 = boxes m c) (i : Fin 4) (p : Fin 20000) :
    Arrays.overlap (V1 m ρ c main_call0_v0) (V1 m ρ c main_call0_v1) (V1 m ρ c main_arg2) i p = Cert.ReferenceIdeal.Score.overlap V0 i p :=
  by
  have e0 : (fun k => (V1 m ρ c main_call0_v0 : FVec Ideal S6x20000 .f32) (ix2 k p)) = fun k => Cert.ReferenceIdeal.Score.props V0 (ix2 p k) :=
    funext fun k => (entry_props m ρ c k p).trans (congrFun h0 (ix2 p k)).symm
  have e2 (g : Fin 8) : (fun k => (V1 m ρ c main_arg2 : FVec Ideal S4x8x6 .f32) (ix3 i g k)) = fun k => Cert.ReferenceIdeal.Score.boxes V0 (ix3 i g k) :=
    funext fun k => (congrFun (entry_boxes m ρ c) (ix3 i g k)).trans (congrFun h2 (ix3 i g k)).symm
  funext g
  refine (congrArg (fun k => Cert.Score.iou k _ _) (isOf_eq m ρ c V0 h1 i p)).trans ?_
  exact congrArg₂ (Cert.Score.iou _) (e2 g) e0

/-- The positive scores are the reference's, at the same arguments. -/
theorem scores_pos (c : Dev nD) (V0 : Valuation Cert.ReferenceIdeal.τ Cert.ReferenceIdeal.sig (Elt Ideal))
    (h0 : Cert.ReferenceIdeal.Score.props V0 = props m c) (h1 : Cert.ReferenceIdeal.Score.image V0 = image m c)
    (h2 : Cert.ReferenceIdeal.Score.boxes V0 = boxes m c) :
    W2 m ρ c (Proc.devRef .tc main_call0_v2_0) = Cert.ReferenceIdeal.Score.posRef V0 := by
  refine (W2_arr m ρ c 3).trans ((Arrays.arr3 (V1 m ρ) c).trans ?_)
  funext j
  obtain ⟨i, g, p, rfl⟩ : ∃ (i : Fin 4) (g : Fin 8) (p : Fin 20000), j = ix3 i g p := ⟨j 0, j 1, j 2, eq_ix3 j⟩
  refine Eq.trans ?_ (Cert.ReferenceIdeal.Score.posRef_apply V0 i g p).symm
  exact congrFun (congrArg₂ Cert.Score.pos (isOf_eq m ρ c V0 h1 i p) (overlap_eq m ρ c V0 h0 h1 h2 i p)) g

/-- The negative scores are the reference's, at the same arguments. -/
theorem scores_neg (c : Dev nD) (V0 : Valuation Cert.ReferenceIdeal.τ Cert.ReferenceIdeal.sig (Elt Ideal))
    (h0 : Cert.ReferenceIdeal.Score.props V0 = props m c) (h1 : Cert.ReferenceIdeal.Score.image V0 = image m c)
    (h2 : Cert.ReferenceIdeal.Score.boxes V0 = boxes m c) :
    W2 m ρ c (Proc.devRef .tc main_call0_v2_1) = Cert.ReferenceIdeal.Score.negRef V0 := by
  refine (W2_arr m ρ c 4).trans ((Arrays.arr4 (V1 m ρ) c).trans ?_)
  funext j
  obtain ⟨i, g, p, rfl⟩ : ∃ (i : Fin 4) (g : Fin 8) (p : Fin 20000), j = ix3 i g p := ⟨j 0, j 1, j 2, eq_ix3 j⟩
  refine Eq.trans ?_ (Cert.ReferenceIdeal.Score.negRef_apply V0 i g p).symm
  exact congrFun (congrArg₂ Cert.Score.neg (isOf_eq m ρ c V0 h1 i p) (overlap_eq m ρ c V0 h0 h1 h2 i p)) g

/-- The flat positions picked. -/
def picks (c : Dev nD) : IVec S4x256 32 :=
  Host.flat (F := Ideal) (W2 m ρ c (Proc.devRef .tc main_call0_v2_0)) (W2 m ρ c (Proc.devRef .tc main_call0_v2_1))

/-- The contents once the picks' two indices are known. -/
abbrev WB (c : Dev nD) : Valuation τ sig (Elt Ideal) :=
  StableHlo.after ((hostOps1.drop 7).take 40) (StableHlo.after (hostOps1.take 7) (W2 m ρ c))

/-- The first two parts of the line write no argument. -/
theorem WB_args (c : Dev nD) (a : Ref sig .tc) (h : a ∈ argRefs) :
    WB m ρ c (Proc.devRef .tc a) = m ((c : Thread nD τ).loc a) := by
  have e : WB m ρ c = StableHlo.after (hostOps1.take 47) (W2 m ρ c) := by
    unfold WB; rw [← after_append]; rfl
  rw [e]
  refine (StableHlo.after_of_writes_sub (hostOps1.take 47) _ ?_ (hostOps1_args a h)).trans (W2_args m ρ c a h)
  exact List.forall_iff_forall_mem.mpr fun op ho => List.forall_iff_forall_mem.mp hostOps1_writes op (List.mem_of_mem_take ho)

/-- The picks' boxes. -/
theorem WB_gt (c : Dev nD) : WB m ρ c (Proc.devRef .tc main_call0_v6) = Host.gtOf (picks m ρ c) :=
  (Host.read_gt _).trans (congrArg Host.gtOf (Host.read_flat _))

/-- The picks' proposals. -/
theorem WB_roi (c : Dev nD) : WB m ρ c (Proc.devRef .tc main_call0_v7) = Host.roiOf (picks m ρ c) :=
  (Host.read_roi _).trans (congrArg Host.roiOf (Host.read_flat _))

/-- The second kernel's entry is the rest of the line over these contents. -/
theorem W3_eq (c : Dev nD) : W3 m ρ c = StableHlo.after (hostOps1.drop 47) (WB m ρ c) := Host.split _

/-- The sampled proposals. -/
theorem W3_rois (c : Dev nD) : W3 m ρ c (Proc.devRef .tc main_v0_0) = Host.roisOf (props m c) (Host.roiOf (picks m ρ c)) := by
  rw [W3_eq, Host.read_rois, WB_args m ρ c main_arg0 (by decide), WB_roi]

/-- The sampled labels. -/
theorem W3_labels (c : Dev nD) : W3 m ρ c (Proc.devRef .tc main_v0_2) = Host.labelsOf (labels m c) (Host.gtOf (picks m ρ c)) := by
  rw [W3_eq, Host.read_labels, WB_args m ρ c main_arg3 (by decide), WB_gt]

/-- The image numbers of the picks. -/
theorem W3_repeat (c : Dev nD) : W3 m ρ c (Proc.devRef .tc main_v0_4) = fun j => BitVec.ofNat 32 ((j 0).val / 256) := by
  rw [W3_eq]
  exact (Host.read_repeat _).trans Host.repeat_eq

/-- The second kernel's proposals. -/
theorem W3_rois_in (c : Dev nD) : W3 m ρ c (Proc.devRef .tc main_call0_v39)
    = shapeCast S1024x1x6 (Host.roisOf (props m c) (Host.roiOf (picks m ρ c))) shapeCasts_S1024x6_S1024x1x6 := by
  rw [W3_eq, Host.read_rois_in, WB_args m ρ c main_arg0 (by decide), WB_roi]

/-- The second kernel's boxes. -/
theorem W3_boxes_in (c : Dev nD) : W3 m ρ c (Proc.devRef .tc main_call0_v40)
    = shapeCast S1024x1x6 (Host.boxesOf (boxes m c) (Host.gtOf (picks m ρ c))) shapeCasts_S4x256x6_S1024x1x6 := by
  rw [W3_eq, Host.read_boxes_in, WB_args m ρ c main_arg2 (by decide), WB_gt]

/-- What no later part writes is as the second kernel finds it. -/
theorem W5_keep (c : Dev nD) (r : Ref sig .tc) (h : r ∉ hostOps2_W)
    (h' : ∀ w : Fin cfg1.W, Pipeline.arrRef spec1 w = r → (cfg1.win w).isOut = false) :
    W5 m ρ c (Proc.devRef .tc r) = W3 m ρ c (Proc.devRef .tc r) :=
  (W5_of m ρ c r h).trans (W4_of m ρ c r h')

/-- The first result. -/
theorem result0 (c : Dev nD) : W5 m ρ c (Proc.devRef .tc main_v0_0) = Host.roisOf (props m c) (Host.roiOf (picks m ρ c)) :=
  (W5_keep m ρ c main_v0_0 (by decide) (by decide)).trans (W3_rois m ρ c)

/-- The third result. -/
theorem result2 (c : Dev nD) : W5 m ρ c (Proc.devRef .tc main_v0_2) = Host.labelsOf (labels m c) (Host.gtOf (picks m ρ c)) :=
  (W5_keep m ρ c main_v0_2 (by decide) (by decide)).trans (W3_labels m ρ c)

/-- The fifth result. -/
theorem result4 (c : Dev nD) : W5 m ρ c (Proc.devRef .tc main_v0_4) = fun j => BitVec.ofNat 32 ((j 0).val / 256) :=
  (W5_keep m ρ c main_v0_4 (by decide) (by decide)).trans (W3_repeat m ρ c)

/-- The fourth result is what the second kernel leaves. -/
theorem result3 (c : Dev nD) : W5 m ρ c (Proc.devRef .tc main_v0_3) = (dat1 (V3 m ρ) c).arrAt 3 cfg1.N :=
  (W5_of m ρ c main_v0_3 (by decide)).trans (W4_arr m ρ c 3)

/-- The second result is what the second kernel leaves, without the axis of one. -/
theorem result1 (c : Dev nD) : W5 m ρ c (Proc.devRef .tc main_v0_1)
    = shapeCast S1024x6 ((dat1 (V3 m ρ) c).arrAt 4 cfg1.N : FVec Ideal S1024x1x6 .f32) shapeCasts_S1024x1x6_S1024x6 := by
  refine Eq.trans ?_ (congrArg (fun x => shapeCast S1024x6 (x : FVec Ideal S1024x1x6 .f32) shapeCasts_S1024x1x6_S1024x6) (W4_arr m ρ c 4))
  show StableHlo.after hostOps2 (W4 m ρ c) _ = _
  simp only [hostOps2, TRef.nullary, TRef.unary, TRef.binary, TRef.ternary, TRef.reshape, TRef.toBuf, TRef.ofBuf, cast_eq]
  after_reads_simp
  rfl

end Cert.KernelIdeal.Reads

end
-- ==== Proof.Crop.lean ====
/- The second kernel's two outputs, read at an index: the regression targets of a box against a proposal, and the mask
   resampled by three weighted sums, one per axis. -/
module

public import proofs.«01_k».proof.Proof.Gen.KernelIdeal.Frame
public import Idealize.ShloMosaic.Lib.Pointwise
public import Idealize.ShloMosaic.Lib.Pipeline.ValueKit
public import Idealize.ShloMosaic.PureOps.Ideal

@[expose] public section

set_option maxRecDepth 16384

noncomputable section

namespace Cert.Crop

open Idealize.ShloMosaic Idealize.ShloMosaic.TcCoe

/-- Half. -/
abbrev half : EReal := Ideal.ofBits .f32 0x3F000000#32
/-- The small number that keeps the divisors away from zero. -/
abbrev eps : EReal := Ideal.ofBits .f32 0x322BCC77#32

/-- The shift between a box's and a proposal's centres, along an axis, over the proposal's size. -/
def shift (b0 b1 r0 r1 : EReal) : EReal :=
  Ideal.div ((b0 + half * (b1 - b0)) - (r0 + half * (r1 - r0))) ((r1 - r0) + eps)

/-- The logarithm of a box's size over a proposal's, along an axis. -/
def scale (b0 b1 r0 r1 : EReal) : EReal := Ideal.log (Ideal.div ((b1 - b0) + eps) ((r1 - r0) + eps))

/-- The regression targets. -/
def delta (b r : Fin 6 → EReal) : Fin 6 → EReal :=
  ![shift (b 0) (b 3) (r 0) (r 3), shift (b 1) (b 4) (r 1) (r 4), shift (b 2) (b 5) (r 2) (r 5),
    scale (b 0) (b 3) (r 0) (r 3), scale (b 1) (b 4) (r 1) (r 4), scale (b 2) (b 5) (r 2) (r 5)]

/-- The named reciprocal of 27. -/
abbrev inv27 : Ideal .f32 := Named.named Cert.KernelIdeal.κ "inv27" 0x3D17B426#32

/-- Where the `a`-th of the 28 points of an axis lies among the 64 nodes, clipped to them. -/
def place (lo hi : EReal) (a : Fin 28) : EReal :=
  min (Ideal.ofBits .f32 0x427C0000#32) (max 0
    ((lo + FloatOps.sitofp (F := Ideal) .f32 (BitVec.ofNat 32 a.val) * ((hi - lo) * inv27)) * Ideal.ofBits .f32 0x427C0000#32))

/-- The weight of node `v` for that point. -/
def weight (lo hi : EReal) (a : Fin 28) (v : Fin 64) : EReal :=
  max (1 - FloatOps.absf (F := Ideal) (φ := .f32) (place lo hi a - FloatOps.sitofp (F := Ideal) .f32 (BitVec.ofNat 32 v.val))) 0

/-- The mask's element at three points: the volume summed against the three axes' weights. -/
def mask (r : Fin 6 → EReal) (vol : Fin 64 → Fin 64 → Fin 64 → EReal) (a b c : Fin 28) : EReal :=
  ∑ z : Fin 64, (∑ x : Fin 64, (∑ y : Fin 64, weight (r 0) (r 3) a y * vol y x z) * weight (r 1) (r 4) b x) * weight (r 2) (r 5) c z

end Cert.Crop

namespace Cert.KernelIdeal.Crop

open Cert.KernelIdeal Cert.KernelIdeal.Gen
open Idealize.ShloMosaic Idealize.ShloMosaic.TcCoe

/-- The block of regression targets. -/
theorem out1_4_apply (x0 x1 : Vec Ideal S1x1x6 .f32) (x2 : Vec Ideal S1x64x64x64 .f32) (k : Fin 6) :
    out1_4 x0 x1 x2 (ix3 0 0 k) = Cert.Crop.delta (fun k => x1 (ix3 0 0 k)) (fun k => x0 (ix3 0 0 k)) k := by
  unfold out1_4
  rw [View.canon_unit_zero (by decide)]
  fin_cases k <;> pointwise [k1_pay4, k1_pay2] <;> rfl

/-- The first axis's weights. -/
theorem pay9_apply (v38 v39 : FVec Ideal S1x1 .f32) (a : Fin 28) (v : Fin 64) :
    k1_pay9 (k1_pay5 (F := Ideal)) (k1_pay6 (F := Ideal)) v38 v39 (ix2 a v) = Cert.Crop.weight (v38 (ix2 0 0)) (v39 (ix2 0 0)) a v := by
  pointwise [k1_pay9, k1_pay5, k1_pay6]
  rfl

/-- The second axis's weights. -/
theorem pay10_apply (v1 : FVec Ideal S1x6 .f32) (a : Fin 28) (v : Fin 64) :
    k1_pay10 v1 (k1_pay5 (F := Ideal)) (k1_pay6 (F := Ideal)) (ix2 a v) = Cert.Crop.weight (v1 (ix2 0 1)) (v1 (ix2 0 4)) a v := by
  pointwise [k1_pay10, k1_pay5, k1_pay6]
  rfl

/-- The three sums. -/
theorem pay1_apply (v5 : FVec Ideal S64x64x64 .f32) (v60 v83 : FVec Ideal S28x64 .f32) (v1 : FVec Ideal S1x6 .f32) (a b c : Fin 28) :
    k1_pay1 v5 (k1_pay5 (F := Ideal)) (k1_pay6 (F := Ideal)) v60 v83 (k1_pay11 v1) (k1_pay12 v1) Cert.Crop.inv27 (ix4 0 a b c)
      = ∑ z : Fin 64, (∑ x : Fin 64, (∑ y : Fin 64, v60 (ix2 a y) * v5 (ix3 y x z)) * v83 (ix2 b x)) * Cert.Crop.weight (v1 (ix2 0 2)) (v1 (ix2 0 5)) c z := by
  pointwise [k1_pay1, k1_pay5, k1_pay6, k1_pay11, k1_pay12]
  rfl

/-- The block of masks. -/
theorem out1_3_apply (x0 x1 : Vec Ideal S1x1x6 .f32) (x2 : Vec Ideal S1x64x64x64 .f32) (a b c : Fin 28) :
    out1_3 x0 x1 x2 (ix4 0 a b c) = Cert.Crop.mask (fun k => x0 (ix3 0 0 k)) (fun y x z => x2 (ix4 0 y x z)) a b c := by
  unfold out1_3
  rw [View.canon_unit_zero (by decide)]
  unfold k1_pay13 k1_pay14 k1_pay15
  refine (pay1_apply (k1_pay3 (View.ld x2 r1_1)) _ _ (k1_pay2 (View.ld x0 r1_0)) a b c).trans ?_
  simp only [pay9_apply, pay10_apply]
  pointwise [k1_pay2, k1_pay3, k1_pay7, k1_pay8]
  rfl

end Cert.KernelIdeal.Crop

end
-- ==== Proof.Arrays1.lean ====
/- What the second kernel leaves in its two output arrays: every pick's regression targets and resampled mask. -/
module

public import proofs.«01_k».proof.Proof.Crop

@[expose] public section

set_option maxRecDepth 16384

noncomputable section

namespace Cert.KernelIdeal.Arrays

open Cert.KernelIdeal Cert.KernelIdeal.Gen
open Idealize.ShloMosaic Idealize.ShloMosaic.TcCoe Idealize.ShloMosaic.Pipeline

variable (V : (c : Dev nD) → (b : Ref sig .tc) → Buf (Elt Ideal) ((c : Thread nD τ).loc b))

/-- The image of a pick: 256 picks to an image. -/
def imageOf (r : Fin 1024) : Fin 4 := ⟨r.val / 256, by omega⟩

/-- All picks' masks. -/
def maskArr (x0 : FVec Ideal S1024x1x6 .f32) (x2 : FVec Ideal S4x64x64x64 .f32) : FVec Ideal S1024x28x28x28 .f32 :=
  fun j => Cert.Crop.mask (fun k => x0 (ix3 (j 0) 0 k)) (fun y x z => x2 (ix4 (imageOf (j 0)) y x z)) (j 1) (j 2) (j 3)

/-- All picks' regression targets. -/
def deltaArr (x0 x1 : FVec Ideal S1024x1x6 .f32) : FVec Ideal S1024x1x6 .f32 :=
  fun j => Cert.Crop.delta (fun k => x1 (ix3 (j 0) 0 k)) (fun k => x0 (ix3 (j 0) 0 k)) (j 2)

/-- A grid point's proposal is the point's pick. -/
theorem index1_0 : ∀ t : Fin cfg1.N, win1_0.index t = ![(grid1.coords t 0).val, 0, 0] := (by decide +kernel : ∀ t : Fin grid1.N, _)
/-- A grid point's box is the point's pick. -/
theorem index1_1 : ∀ t : Fin cfg1.N, win1_1.index t = ![(grid1.coords t 0).val, 0, 0] := (by decide +kernel : ∀ t : Fin grid1.N, _)
/-- A grid point's volume is its pick's image's. -/
theorem index1_2 : ∀ t : Fin cfg1.N, win1_2.index t = ![(grid1.coords t 0).val / 256, 0, 0, 0] := (by decide +kernel : ∀ t : Fin grid1.N, _)
/-- A grid point writes its pick's mask. -/
theorem index1_3 : ∀ t : Fin cfg1.N, win1_3.index t = ![(grid1.coords t 0).val, 0, 0, 0] := (by decide +kernel : ∀ t : Fin grid1.N, _)
/-- A grid point writes its pick's targets. -/
theorem index1_4 : ∀ t : Fin cfg1.N, win1_4.index t = ![(grid1.coords t 0).val, 0, 0] := (by decide +kernel : ∀ t : Fin grid1.N, _)

/-- The proposal as a grid point sees it. -/
theorem pick0 (c : Dev nD) (t : Fin cfg1.N) (k : Fin 6) :
    (iblk1 V c 0 t : FVec Ideal S1x1x6 .f32) (ix3 0 0 k) = (V c main_call0_v39 : FVec Ideal S1024x1x6 .f32) (ix3 (grid1.coords t 0) 0 k) := by
  blk_simp [iblk1]
  refine congrArg (V c main_call0_v39) ?_
  blk_ext [index1_0]

/-- The box as a grid point sees it. -/
theorem pick1 (c : Dev nD) (t : Fin cfg1.N) (k : Fin 6) :
    (iblk1 V c 1 t : FVec Ideal S1x1x6 .f32) (ix3 0 0 k) = (V c main_call0_v40 : FVec Ideal S1024x1x6 .f32) (ix3 (grid1.coords t 0) 0 k) := by
  blk_simp [iblk1]
  refine congrArg (V c main_call0_v40) ?_
  blk_ext [index1_1]

/-- The volume as a grid point sees it. -/
theorem pick2 (c : Dev nD) (t : Fin cfg1.N) (y x z : Fin 64) :
    (iblk1 V c 2 t : FVec Ideal S1x64x64x64 .f32) (ix4 0 y x z)
      = (V c main_arg4 : FVec Ideal S4x64x64x64 .f32) (ix4 (imageOf (grid1.coords t 0)) y x z) := by
  blk_simp [iblk1]
  refine congrArg (V c main_arg4) ?_
  blk_ext [index1_2, imageOf]

/-- A block of masks, from inputs that hold the arrays' elements. -/
theorem blockMask (r : Fin 1024) (x0 x1 : Vec Ideal S1x1x6 .f32) (x2 : Vec Ideal S1x64x64x64 .f32)
    (X0 : FVec Ideal S1024x1x6 .f32) (X2 : FVec Ideal S4x64x64x64 .f32)
    (h0 : ∀ k, x0 (ix3 0 0 k) = X0 (ix3 r 0 k)) (h2 : ∀ y x z, x2 (ix4 0 y x z) = X2 (ix4 (imageOf r) y x z))
    (y : S1x28x28x28.Idx) (a b c : Fin 28) (hy : y = ix4 0 a b c) (z : S1024x28x28x28.Idx) (hz : z = ix4 r a b c) :
    out1_3 x0 x1 x2 y = maskArr X0 X2 z := by
  subst hz hy
  refine (Crop.out1_3_apply x0 x1 x2 a b c).trans ?_
  simp only [h0, h2]
  rfl

/-- A block of targets, from inputs that hold the arrays' elements. -/
theorem blockDelta (r : Fin 1024) (x0 x1 : Vec Ideal S1x1x6 .f32) (x2 : Vec Ideal S1x64x64x64 .f32)
    (X0 X1 : FVec Ideal S1024x1x6 .f32)
    (h0 : ∀ k, x0 (ix3 0 0 k) = X0 (ix3 r 0 k)) (h1 : ∀ k, x1 (ix3 0 0 k) = X1 (ix3 r 0 k))
    (y : S1x1x6.Idx) (k : Fin 6) (hy : y = ix3 0 0 k) (z : S1024x1x6.Idx) (hz : z = ix3 r 0 k) :
    out1_4 x0 x1 x2 y = deltaArr X0 X1 z := by
  subst hz hy
  refine (Crop.out1_4_apply x0 x1 x2 k).trans ?_
  simp only [h0, h1]
  rfl

/-- An index of a block of one mask. -/
theorem unit_ix4 (y : S1x28x28x28.Idx) : y = ix4 0 (y 1) (y 2) (y 3) := by
  funext a
  match a with
  | 0 => exact Fin.ext (Nat.lt_one_iff.mp (y 0).isLt)
  | 1 => rfl
  | 2 => rfl
  | 3 => rfl

/-- An index of a block of one pick's targets. -/
theorem unit_ix3' (y : S1x1x6.Idx) : y = ix3 0 0 (y 2) := by
  funext a
  match a with
  | 0 => exact Fin.ext (Nat.lt_one_iff.mp (y 0).isLt)
  | 1 => exact Fin.ext (Nat.lt_one_iff.mp (y 1).isLt)
  | 2 => rfl

/-- The masks' array. -/
theorem arrMask (c : Dev nD) : (dat1 V c).arrAt 3 cfg1.N = maskArr (V c main_call0_v39) (V c main_arg4) := by
  refine (dat1 V c).arrAt_eq_of_covers 3 _ (by decide +kernel) fun t hf y => ?_
  blk_simp
  rw [after1_3]
  exact blockMask (grid1.coords t 0) _ _ _ _ _ (pick0 V c t) (pick2 V c t) y (y 1) (y 2) (y 3) (unit_ix4 y) _ (by blk_ext [index1_3])

/-- The targets' array. -/
theorem arrDelta (c : Dev nD) : (dat1 V c).arrAt 4 cfg1.N = deltaArr (V c main_call0_v39) (V c main_call0_v40) := by
  refine (dat1 V c).arrAt_eq_of_covers 4 _ (by decide +kernel) fun t hf y => ?_
  blk_simp
  rw [after1_4]
  exact blockDelta (grid1.coords t 0) _ _ _ _ _ (pick0 V c t) (pick1 V c t) y (y 2) (unit_ix3' y) _ (by blk_ext [index1_4])

end Cert.KernelIdeal.Arrays

end
-- ==== Proof.Deltas.lean ====
/- The reference's regression targets, read at a pick and a coordinate. -/
module

public import proofs.«01_k».proof.Proof.Crop
public import proofs.«01_k».proof.Proof.Gen.ReferenceIdeal.Run
public import Idealize.ShloMosaic.Lib.Pointwise

@[expose] public section

set_option maxRecDepth 16384

noncomputable section

namespace Cert.ReferenceIdeal.Deltas

open Cert.ReferenceIdeal Cert.ReferenceIdeal.Gen Cert.ReferenceIdeal.Value
open Idealize.ShloMosaic Idealize.ShloMosaic.TcCoe

variable (V0 : Valuation τ sig (Elt Ideal))

/-- One coordinate of every sampled row. -/
def coord (k : ℕ) (h : S4x256x6.Slices ![0, 0, k] S4x256x1) (x : FVec Ideal S4x256x6 .f32) : FVec Ideal S4x256 .f32 :=
  shapeCast S4x256 (extractStridedSlice S4x256x1 ![0, 0, k] x h) shapeCasts_S4x256x1_S4x256

/-- A float at every pick. -/
def fill (b : BitVec 32) : FVec Ideal S4x256 .f32 := broadcastInDim S4x256 ![] bcast_S_S4x256 (constant (F := Ideal) S_ .f32 b)

/-- As a column of the target array. -/
def col (x : FVec Ideal S4x256 .f32) : FVec Ideal S4x256x1 .f32 := broadcastInDim S4x256x1 ![0, 1] bcast_S4x256_S4x256x1_0_1 x

/-- The shift of the centres over the proposal's size. -/
def shiftOf (b sb r sr : FVec Ideal S4x256 .f32) : FVec Ideal S4x256 .f32 :=
  Host.divf (subf (addf b (mulf (fill 0x3F000000#32) sb)) (addf r (mulf (fill 0x3F000000#32) sr))) (addf sr (fill 0x322BCC77#32))

/-- The logarithm of the sizes' quotient. -/
def scaleOf (sb sr : FVec Ideal S4x256 .f32) : FVec Ideal S4x256 .f32 :=
  Host.log (Host.divf (addf sb (fill 0x322BCC77#32)) (addf sr (fill 0x322BCC77#32)))

/-- The reference's targets. -/
def targets : FVec Ideal S4x256x6 .f32 :=
  concatenate S4x256x6 2
    [⟨S4x256x1, col (shiftOf (coord 0 slices_S4x256x6_S4x256x1_0_0_0 (res_main_v133 V0)) (res_main_v173 V0)
        (coord 0 slices_S4x256x6_S4x256x1_0_0_0 (res_main_v132 V0)) (res_main_v143 V0))⟩,
     ⟨S4x256x1, col (shiftOf (coord 1 slices_S4x256x6_S4x256x1_0_0_1 (res_main_v133 V0)) (res_main_v178 V0)
        (coord 1 slices_S4x256x6_S4x256x1_0_0_1 (res_main_v132 V0)) (res_main_v148 V0))⟩,
     ⟨S4x256x1, col (shiftOf (coord 2 slices_S4x256x6_S4x256x1_0_0_2 (res_main_v133 V0)) (res_main_v183 V0)
        (coord 2 slices_S4x256x6_S4x256x1_0_0_2 (res_main_v132 V0)) (res_main_v153 V0))⟩,
     ⟨S4x256x1, col (scaleOf (res_main_v173 V0) (res_main_v143 V0))⟩,
     ⟨S4x256x1, col (scaleOf (res_main_v178 V0) (res_main_v148 V0))⟩,
     ⟨S4x256x1, col (scaleOf (res_main_v183 V0) (res_main_v153 V0))⟩]
    concatenates_S4x256x1_S4x256x1_S4x256x1_S4x256x1_S4x256x1_S4x256x1_S4x256x6_d2

/-- The reference's targets at a pick. -/
theorem targets_apply (i : Fin 4) (s : Fin 256) (k : Fin 6) :
    targets V0 (ix3 i s k) = Cert.Crop.delta (fun k => res_main_v133 V0 (ix3 i s k)) (fun k => res_main_v132 V0 (ix3 i s k)) k := by
  unfold Cert.Crop.delta Cert.Crop.shift Cert.Crop.scale
  fin_cases k <;>
    pointwise [targets, col, shiftOf, scaleOf, coord, fill, res_main_v143, res_main_v148, res_main_v153, res_main_v173, res_main_v178,
      res_main_v183] <;>
    rfl

end Cert.ReferenceIdeal.Deltas

end
-- ==== Proof.Picks.lean ====
/- The gathers of the kernel's and the reference's host operations, read at an index. -/
module

public import proofs.«01_k».proof.Proof.KHost
public import proofs.«01_k».proof.Proof.Gen.ReferenceIdeal.Run
public import Idealize.ShloMosaic.Lib.Pointwise
public import Idealize.ShloMosaic.Lib.Routing.Words
public import Idealize.ShloMosaic.Lib.Routing.Ops
public import Idealize.ShloMosaic.Lib.ReduceAll

@[expose] public section

set_option maxRecDepth 16384

noncomputable section

namespace Cert.ReferenceIdeal.Picks

open Cert.ReferenceIdeal Cert.ReferenceIdeal.Gen Cert.ReferenceIdeal.Value
open Idealize.ShloMosaic Idealize.ShloMosaic.TcCoe

/-- A word read signed and clamped to the indices below `n + 1`. -/
def clampTo (n : Nat) (x : BitVec 32) : Fin (n + 1) := ⟨min x.toInt.toNat n, Nat.lt_succ_of_le (Nat.min_le_right _ _)⟩

/-- The rows of the proposals, gathered. -/
theorem gather_props (x : FVec Ideal S20000x6 .f32) (idx : IVec S4x256x1 32) (i : Fin 4) (s : Fin 256) (k : Fin 6) :
    Host.gather gather_S20000x6_S4x256x1_S4x256x6_2_0_n_n_0_2_16 x idx (ix3 i s k) = x (ix2 (clampTo 19999 (idx (ix3 i s 0))) k) := by
  unfold Host.gather
  have hsi : gather_S20000x6_S4x256x1_S4x256x6_2_0_n_n_0_2_16.siIdx (ix3 i s k) ⟨0, Nat.one_pos⟩ = ix3 i s 0 := by
    funext b
    match b with
    | ⟨0, _⟩ => rfl
    | ⟨1, _⟩ => rfl
    | ⟨2, _⟩ => rfl
  refine congrArg x (funext fun a => Fin.ext ?_)
  match a with
  | ⟨0, _⟩ => exact congrArg (fun z : S4x256x1.Idx => min (idx z).toInt.toNat 19999) hsi
  | ⟨1, _⟩ => exact (Nat.zero_add _).trans rfl

/-- A position among the first 64 sorted is a position of the sorted axis. -/
theorem topK_range64 (x : FVec Ideal S4x160000 .f32) (j : S4x64.Idx) :
    ∃ n : Fin 160000, (Host.topK S4x64 1 (FloatOps.cmpfTotal (F := Ideal) .gt) x sliceFits_S4x160000_S4x64).2 j = BitVec.ofNat 32 n.val := by
  obtain ⟨i, hi⟩ : ∃ i : S4x160000.Idx, (Host.topK S4x64 1 (FloatOps.cmpfTotal (F := Ideal) .gt) x sliceFits_S4x160000_S4x64).2 j = BitVec.ofNat 32 (i 1).val := ⟨_, rfl⟩
  exact ⟨i 1, hi⟩

/-- A position among the first 192 sorted is a position of the sorted axis. -/
theorem topK_range192 (x : FVec Ideal S4x160000 .f32) (j : S4x192.Idx) :
    ∃ n : Fin 160000, (Host.topK S4x192 1 (FloatOps.cmpfTotal (F := Ideal) .gt) x sliceFits_S4x160000_S4x192).2 j = BitVec.ofNat 32 n.val := by
  obtain ⟨i, hi⟩ : ∃ i : S4x160000.Idx, (Host.topK S4x192 1 (FloatOps.cmpfTotal (F := Ideal) .gt) x sliceFits_S4x160000_S4x192).2 j = BitVec.ofNat 32 (i 1).val := ⟨_, rfl⟩
  exact ⟨i 1, hi⟩

variable (V0 : Valuation τ sig (Elt Ideal))

/-- Every pick is a flat position of the score arrays. -/
theorem pick_range (i : Fin 4) (s : Fin 256) : ∃ n : Fin 160000, res_main_v129 V0 (ix2 i s) = BitVec.ofNat 32 n.val := by
  unfold res_main_v129
  generalize hp : (Host.topK S4x64 1 (FloatOps.cmpfTotal (F := Ideal) .gt) (res_main_v125 V0) sliceFits_S4x160000_S4x64).2 = p
  generalize hn : (Host.topK S4x192 1 (FloatOps.cmpfTotal (F := Ideal) .gt) (res_main_v128 V0) sliceFits_S4x160000_S4x192).2 = n
  have hP (j) : ∃ k : Fin 160000, p j = BitVec.ofNat 32 k.val := hp ▸ topK_range64 (res_main_v125 V0) j
  have hN (j) : ∃ k : Fin 160000, n j = BitVec.ofNat 32 k.val := hn ▸ topK_range192 (res_main_v128 V0) j
  pointwise []
  split
  · exact hP _
  · exact hN _

/-- A small word read signed. -/
theorem toInt_small {n : ℕ} (h : n < 2 ^ 31) : (BitVec.ofNat 32 n).toInt = n := by
  rw [BitVec.toInt_eq_toNat_cond, BitVec.toNat_ofNat]
  omega

/-- A small word is not negative. -/
theorem slt_zero {n : ℕ} (h : n < 2 ^ 31) : IntOp.cmpi .slt (BitVec.ofNat 32 n) 0#32 = 0#1 := by
  have : ¬ (BitVec.ofNat 32 n).slt 0#32 := by
    rw [BitVec.slt_iff_toInt_lt, toInt_small h]
    simp
  simp only [IntOp.cmpi, this]
  rfl

/-- A small word is at least zero. -/
theorem sge_zero {n : ℕ} (h : n < 2 ^ 31) : IntOp.cmpi .sge (BitVec.ofNat 32 n) 0#32 = 1#1 := by
  have : (0#32).sle (BitVec.ofNat 32 n) := by
    rw [BitVec.sle_iff_toInt_le, toInt_small h]
    simp
  simp only [IntOp.cmpi, this]
  rfl

/-- A proposal's number is at most the last. -/
theorem sle_last (n : Fin 20000) : IntOp.cmpi .sle (BitVec.ofNat 32 n.val) 19999#32 = 1#1 := by
  have : (BitVec.ofNat 32 n.val).sle 19999#32 := by
    rw [BitVec.sle_iff_toInt_le, toInt_small (by omega), show (19999#32).toInt = 19999 from by decide]
    omega
  simp only [IntOp.cmpi, this]
  rfl

/-- Clamped, a proposal's number is itself. -/
theorem clamp_last (n : Fin 20000) : clampTo 19999 (BitVec.ofNat 32 n.val) = n := by
  refine Fin.ext ?_
  show min (BitVec.ofNat 32 n.val).toInt.toNat 19999 = n.val
  rw [toInt_small (by omega)]
  omega

/-- The proposal's number of a pick. -/
theorem roi_word (x : IVec S4x256 32) (i : Fin 4) (s : Fin 256) (n : Fin 160000) (h : x (ix2 i s) = BitVec.ofNat 32 n.val) :
    Cert.KernelIdeal.Host.roiOf x (ix2 i s) = BitVec.ofNat 32 (n.val % 20000) := by
  pointwise [Cert.KernelIdeal.Host.roiOf, id_eq, h]
  have hd : Scalar.select (IntOp.cmpi CmpIPredicate.eq 20000#32 0#32) 1#32 20000#32 = BitVec.ofNat 32 20000 := by decide
  rw [hd, Routing.remsi_word _ (by omega) (by omega) (by omega), slt_zero (by omega)]
  have h0 : IntOp.cmpi .ne 0#1 (IntOp.cmpi .slt (BitVec.ofNat 32 20000) 0#32) = 0#1 := by decide
  have h1 : ∀ y, IntOp.andi 0#1 y = 0#1 := by decide
  rw [h0, h1]
  rfl

/-- The kernel's picks are the reference's. -/
theorem flat_eq (p n : FVec Ideal S4x8x20000 .f32) (hp : res_main_v125 V0 = shapeCast S4x160000 p shapeCasts_S4x8x20000_S4x160000)
    (hn : res_main_v128 V0 = shapeCast S4x160000 n shapeCasts_S4x8x20000_S4x160000) :
    Cert.KernelIdeal.Host.flat (F := Ideal) p n = res_main_v129 V0 := by
  unfold res_main_v129
  rw [hp, hn]
  rfl

/-- The kernel's proposals' numbers are the reference's. -/
theorem roiOf_eq : Cert.KernelIdeal.Host.roiOf (res_main_v129 V0) = res_main_v131 V0 := rfl

/-- The kernel's boxes' numbers are the reference's. -/
theorem gtOf_eq : Cert.KernelIdeal.Host.gtOf (res_main_v129 V0) = res_main_v130 V0 := rfl

/-- The number of the proposal at a pick. -/
def roiNo (i : Fin 4) (s : Fin 256) : Fin 20000 := ⟨(Classical.choose (pick_range V0 i s)).val % 20000, Nat.mod_lt _ (by decide)⟩

/-- It is what the reference's index holds. -/
theorem roiNo_spec (i : Fin 4) (s : Fin 256) : res_main_v131 V0 (ix2 i s) = BitVec.ofNat 32 (roiNo V0 i s).val := by
  rw [← roiOf_eq]
  exact roi_word _ i s _ (Classical.choose_spec (pick_range V0 i s))

/-- The index as the reference's gather takes it. -/
theorem call8_apply (i : Fin 4) (s : Fin 256) (z : Fin 1) : res_main_call8_v5 V0 (ix3 i s z) = BitVec.ofNat 32 (roiNo V0 i s).val := by
  pointwise [res_main_call8_v5, roiNo_spec]
  rw [slt_zero (by have := (roiNo V0 i s).isLt; omega)]
  rfl

/-- The reference's sampled proposals. -/
theorem rois_apply (i : Fin 4) (s : Fin 256) (k : Fin 6) :
    res_main_v132 V0 (ix3 i s k) = (V0 (Proc.devRef .tc main_arg0) : FVec Ideal S20000x6 .f32) (ix2 (roiNo V0 i s) k) := by
  unfold res_main_v132
  refine (congrArg (fun b => Scalar.select b _ _) (Host.reduce_andi_one _ _ _ _ _ rfl ?_)).trans ?_
  · intro x
    obtain ⟨i, s, z, rfl⟩ : ∃ (i : Fin 4) (s : Fin 256) (z : Fin 1), x = ix3 i s z := ⟨x 0, x 1, x 2, eq_ix3 x⟩
    pointwise [call8_apply]
    rw [sge_zero (by have := (roiNo V0 i s).isLt; omega), sle_last]
    rfl
  · refine (gather_props _ _ i s k).trans ?_
    rw [call8_apply, clamp_last]

/-- The index as the kernel's gather takes it. -/
theorem roiIx_apply (r : Fin 1024) (z : Fin 1) :
    Cert.KernelIdeal.Host.roiIx (res_main_v131 V0) (ix2 r z)
      = BitVec.ofNat 32 (roiNo V0 ⟨r.val / 256, by omega⟩ ⟨r.val % 256, by omega⟩).val := by
  pointwise [Cert.KernelIdeal.Host.roiIx, roiNo_spec]
  rw [slt_zero (by have := (roiNo V0 ⟨r.val / 256, by omega⟩ ⟨r.val % 256, by omega⟩).isLt; omega)]
  rfl

/-- The kernel's sampled proposals. -/
theorem roisOf_apply (props : FVec Ideal S20000x6 .f32) (r : Fin 1024) (k : Fin 6) :
    Cert.KernelIdeal.Host.roisOf (F := Ideal) props (res_main_v131 V0) (ix2 r k)
      = props (ix2 (roiNo V0 ⟨r.val / 256, by omega⟩ ⟨r.val % 256, by omega⟩) k) := by
  unfold Cert.KernelIdeal.Host.roisOf
  refine (congrArg (fun b => Scalar.select b _ _) (Host.reduce_andi_one _ _ _ _ _ rfl ?_)).trans ?_
  · intro x
    obtain ⟨r, z, rfl⟩ : ∃ (r : Fin 1024) (z : Fin 1), x = ix2 r z := ⟨x 0, x 1, eq_ix2 x⟩
    pointwise [roiIx_apply]
    rw [sge_zero (by have := (roiNo V0 ⟨r.val / 256, by omega⟩ ⟨r.val % 256, by omega⟩).isLt; omega), sle_last]
    rfl
  · exact Routing.gather_row _ rfl rfl rfl rfl rfl _ _ r k _ (roiIx_apply V0 r 0) (by decide)

/-- The boxes' index, spread and then normalised, is the index normalised and then spread. -/
theorem boxIx_eq : Cert.KernelIdeal.Host.boxIx (res_main_v130 V0) = res_main_call9_v5 V0 := by
  funext x
  obtain ⟨i, s, z, rfl⟩ : ∃ (i : Fin 4) (s : Fin 256) (z : Fin 1), x = ix3 i s z := ⟨x 0, x 1, x 2, eq_ix3 x⟩
  pointwise [Cert.KernelIdeal.Host.boxIx, res_main_call9_v5]

/-- The labels' index, reshaped, is the index spread. -/
theorem labelIx_eq : Cert.KernelIdeal.Host.labelIx (res_main_v130 V0) = res_main_call10_v5 V0 := by
  funext x
  obtain ⟨i, s, z, rfl⟩ : ∃ (i : Fin 4) (s : Fin 256) (z : Fin 1), x = ix3 i s z := ⟨x 0, x 1, x 2, eq_ix3 x⟩
  pointwise [Cert.KernelIdeal.Host.labelIx, res_main_call10_v5]

/-- The kernel's boxes at the picks are the reference's. -/
theorem boxesOf_eq : Cert.KernelIdeal.Host.boxesOf (F := Ideal) (V0 (Proc.devRef .tc main_arg2)) (res_main_v130 V0) = res_main_v133 V0 := by
  unfold Cert.KernelIdeal.Host.boxesOf res_main_v133
  rw [boxIx_eq]
  rfl

end Cert.ReferenceIdeal.Picks

end
-- ==== Proof.RefMask.lean ====
/- The reference's masks, read at an index: eight corners, each a product of three weights and the volume's element. -/
module

public import proofs.«01_k».proof.Proof.Picks
public import Idealize.ShloMosaic.Lib.Pointwise

@[expose] public section

set_option maxRecDepth 16384

noncomputable section

namespace Cert.ReferenceIdeal.Mask

open Cert.ReferenceIdeal Cert.ReferenceIdeal.Gen Cert.ReferenceIdeal.Value Cert.ReferenceIdeal.Picks
open Idealize.ShloMosaic Idealize.ShloMosaic.TcCoe

variable (V0 : Valuation τ sig (Elt Ideal))

/-- The coordinate of the `a`-th of 28 points from `lo` to `hi`, among the 64 nodes. -/
def coord (lo hi : EReal) (a : Fin 28) : EReal :=
  (if a.val < 27 then lo * (1 - Ideal.div (FloatOps.sitofp (F := Ideal) .f32 (BitVec.ofNat 32 a.val)) (Ideal.ofBits .f32 0x41D80000#32))
      + hi * Ideal.div (FloatOps.sitofp (F := Ideal) .f32 (BitVec.ofNat 32 a.val)) (Ideal.ofBits .f32 0x41D80000#32)
    else hi) * Ideal.ofBits .f32 0x427C0000#32

/-- A corner's weight: the complement of the fractional part for the lower corner, the fractional part for the upper. -/
def weight (q : EReal) (d : Fin 2) : EReal :=
  if d = 0 then 1 - (q - Ideal.liftRound Int.floor q) else q - Ideal.liftRound Int.floor q

/-- The word of a corner's node, before it is clipped. -/
def word (q : EReal) (d : Fin 2) : BitVec 32 := IntOp.addi (FloatOps.fptosi (F := Ideal) (φ := .f32) 32 (Ideal.liftRound Int.floor q)) (BitVec.ofNat 32 d.val)

/-- The node a word names, clipped to the 64. -/
def nodeOf (w : BitVec 32) : Fin 64 := ⟨(min 63 (max 0 w.toInt)).toNat, by omega⟩

/-- The place of a proposal's row at a point along an axis. -/
abbrev at_ (i : Fin 4) (s : Fin 256) (a : Fin 28) (k : Fin 3) : EReal :=
  coord (res_main_v132 V0 (ix3 i s ⟨k.val, by omega⟩)) (res_main_v132 V0 (ix3 i s ⟨3 + k.val, by omega⟩)) a

/-- The coordinates of the points along the axes. -/
theorem v240_apply (i : Fin 4) (s : Fin 256) (a : Fin 28) (k : Fin 3) : res_main_v240 V0 (ix4 i s a k) = at_ V0 i s a k := by
  pointwise [res_main_v240, res_main_call11_v6, res_main_v236, res_main_v237]
  rfl

/-- The nodes. -/
theorem v252_apply (i : Fin 4) (s : Fin 256) (d : Fin 2) (a : Fin 28) (k : Fin 3) :
    res_main_v252 V0 (ix5 i s d a k) = IntOp.minsi 63#32 (IntOp.maxsi 0#32 (word (at_ V0 i s a k) d)) := by
  pointwise [res_main_v252, res_main_v241, res_main_v244, id_eq, v240_apply]
  rfl

/-- The weights. -/
theorem v257_apply (i : Fin 4) (s : Fin 256) (d : Fin 2) (a : Fin 28) (k : Fin 3) :
    res_main_v257 V0 (ix5 i s d a k) = weight (at_ V0 i s a k) d := by
  pointwise [res_main_v257, res_main_v241, res_main_v242, res_main_v244, id_eq, v240_apply]
  match d with
  | 0 => rfl
  | 1 => rfl

/-- A clipped word is its node. -/
theorem clip_toInt (w : BitVec 32) : (IntOp.minsi 63#32 (IntOp.maxsi 0#32 w)).toInt = min 63 (max 0 w.toInt) := by
  have h0 : (0#32).toInt = 0 := by decide
  have h63 : (63#32).toInt = 63 := by decide
  have hm : (IntOp.maxsi 0#32 w).toInt = max 0 w.toInt := by
    unfold IntOp.maxsi
    split <;> simp_all [BitVec.slt_iff_toInt_lt, BitVec.sle_iff_toInt_le] <;> omega
  unfold IntOp.minsi
  split <;> simp_all [BitVec.slt_iff_toInt_lt, BitVec.sle_iff_toInt_le] <;> omega

/-- The gather's index, counted from the end when negative and clamped, is the node. -/
theorem node_eq (w : BitVec 32) :
    clampTo 63 (Scalar.select (IntOp.cmpi .slt (IntOp.minsi 63#32 (IntOp.maxsi 0#32 w)) 0#32)
      (IntOp.addi (IntOp.minsi 63#32 (IntOp.maxsi 0#32 w)) 64#32) (IntOp.minsi 63#32 (IntOp.maxsi 0#32 w))) = nodeOf w := by
  have h := clip_toInt w
  generalize IntOp.minsi 63#32 (IntOp.maxsi 0#32 w) = y at h ⊢
  have hn : ¬ y.slt 0#32 := by
    rw [BitVec.slt_iff_toInt_lt, h]
    simp
  have hs : IntOp.cmpi .slt y 0#32 = 0#1 := by
    simp only [IntOp.cmpi, hn]
    rfl
  rw [hs]
  refine Fin.ext ?_
  show min y.toInt.toNat 63 = (min 63 (max 0 w.toInt)).toNat
  rw [h]
  omega

/-- One axis of the weights. -/
def axisW (k : ℕ) (h : S4x256x2x28x3.Slices ![0, 0, 0, 0, k] S4x256x2x28x1) : FVec Ideal S4x256x2x28 .f32 :=
  shapeCast S4x256x2x28 (extractStridedSlice S4x256x2x28x1 ![0, 0, 0, 0, k] (res_main_v257 V0) h) shapeCasts_S4x256x2x28x1_S4x256x2x28

/-- The product of the three weights at the eight corners. -/
def weights : FVec Ideal S4x256x2x2x2x28x28x28 .f32 :=
  mulf
    (broadcastInDim S4x256x2x2x2x28x28x28 ![0, 1, 2, 3, 4, 5, 6, 7] bcast_S4x256x2x2x1x28x28x1_S4x256x2x2x2x28x28x28_0_1_2_3_4_5_6_7
      (mulf
        (broadcastInDim S4x256x2x2x1x28x28x1 ![0, 1, 2, 3, 4, 5, 6, 7] bcast_S4x256x2x1x1x28x1x1_S4x256x2x2x1x28x28x1_0_1_2_3_4_5_6_7
          (broadcastInDim S4x256x2x1x1x28x1x1 ![0, 1, 2, 5] bcast_S4x256x2x28_S4x256x2x1x1x28x1x1_0_1_2_5
            (axisW V0 0 slices_S4x256x2x28x3_S4x256x2x28x1_0_0_0_0_0)))
        (broadcastInDim S4x256x2x2x1x28x28x1 ![0, 1, 2, 3, 4, 5, 6, 7] bcast_S4x256x1x2x1x1x28x1_S4x256x2x2x1x28x28x1_0_1_2_3_4_5_6_7
          (broadcastInDim S4x256x1x2x1x1x28x1 ![0, 1, 3, 6] bcast_S4x256x2x28_S4x256x1x2x1x1x28x1_0_1_3_6
            (axisW V0 1 slices_S4x256x2x28x3_S4x256x2x28x1_0_0_0_0_1)))))
    (broadcastInDim S4x256x2x2x2x28x28x28 ![0, 1, 2, 3, 4, 5, 6, 7] bcast_S4x256x1x1x2x1x1x28_S4x256x2x2x2x28x28x28_0_1_2_3_4_5_6_7
      (broadcastInDim S4x256x1x1x2x1x1x28 ![0, 1, 4, 7] bcast_S4x256x2x28_S4x256x1x1x2x1x1x28_0_1_4_7
        (axisW V0 2 slices_S4x256x2x28x3_S4x256x2x28x1_0_0_0_0_2)))

/-- One axis of the index of the volume's gather. -/
def axisIx (x : IVec S4x256x2x2x2x28x28x28 32) : IVec S4x256x2x2x2x28x28x28x1 32 :=
  broadcastInDim S4x256x2x2x2x28x28x28x1 ![0, 1, 2, 3, 4, 5, 6, 7] bcast_S4x256x2x2x2x28x28x28_S4x256x2x2x2x28x28x28x1_0_1_2_3_4_5_6_7 x

/-- The index of the volume's gather. -/
def nodes : IVec S4x256x2x2x2x28x28x28x3 32 :=
  concatenate S4x256x2x2x2x28x28x28x3 8
    [⟨S4x256x2x2x2x28x28x28x1, axisIx (broadcastInDim S4x256x2x2x2x28x28x28 ![0, 1, 2, 3, 4, 5, 6, 7] bcast_S4x256x2x1x1x28x1x1_S4x256x2x2x2x28x28x28_0_1_2_3_4_5_6_7
        (select (cmpi .slt (res_main_v260 V0) (broadcastInDim S4x256x2x1x1x28x1x1 ![] bcast_S_S4x256x2x1x1x28x1x1 (constantI S_ 32 0#32)))
          (addi (res_main_v260 V0) (broadcastInDim S4x256x2x1x1x28x1x1 ![] bcast_S_S4x256x2x1x1x28x1x1 (constantI S_ 32 64#32))) (res_main_v260 V0)))⟩,
     ⟨S4x256x2x2x2x28x28x28x1, axisIx (broadcastInDim S4x256x2x2x2x28x28x28 ![0, 1, 2, 3, 4, 5, 6, 7] bcast_S4x256x1x2x1x1x28x1_S4x256x2x2x2x28x28x28_0_1_2_3_4_5_6_7
        (select (cmpi .slt (res_main_v263 V0) (broadcastInDim S4x256x1x2x1x1x28x1 ![] bcast_S_S4x256x1x2x1x1x28x1 (constantI S_ 32 0#32)))
          (addi (res_main_v263 V0) (broadcastInDim S4x256x1x2x1x1x28x1 ![] bcast_S_S4x256x1x2x1x1x28x1 (constantI S_ 32 64#32))) (res_main_v263 V0)))⟩,
     ⟨S4x256x2x2x2x28x28x28x1, axisIx (broadcastInDim S4x256x2x2x2x28x28x28 ![0, 1, 2, 3, 4, 5, 6, 7] bcast_S4x256x1x1x2x1x1x28_S4x256x2x2x2x28x28x28_0_1_2_3_4_5_6_7
        (select (cmpi .slt (res_main_v266 V0) (broadcastInDim S4x256x1x1x2x1x1x28 ![] bcast_S_S4x256x1x1x2x1x1x28 (constantI S_ 32 0#32)))
          (addi (res_main_v266 V0) (broadcastInDim S4x256x1x1x2x1x1x28 ![] bcast_S_S4x256x1x1x2x1x1x28 (constantI S_ 32 64#32))) (res_main_v266 V0)))⟩]
    concatenates_S4x256x2x2x2x28x28x28x1_S4x256x2x2x2x28x28x28x1_S4x256x2x2x2x28x28x28x1_S4x256x2x2x2x28x28x28x3_d8

/-- The weights at a corner. -/
theorem weights_apply (i : Fin 4) (s : Fin 256) (dy dx dz : Fin 2) (a b c : Fin 28) :
    weights V0 (ix8 i s dy dx dz a b c) = weight (at_ V0 i s a 0) dy * weight (at_ V0 i s b 1) dx * weight (at_ V0 i s c 2) dz := by
  pointwise [weights, axisW, v257_apply]

/-- The index at a corner. -/
theorem nodes_apply (i : Fin 4) (s : Fin 256) (dy dx dz : Fin 2) (a b c : Fin 28) (k : Fin 3) :
    clampTo 63 (nodes V0 (ix9 i s dy dx dz a b c k)) = nodeOf (word (at_ V0 i s (![a, b, c] k) k) (![dy, dx, dz] k)) := by
  rw [← node_eq]
  fin_cases k <;> pointwise [nodes, axisIx, res_main_v260, res_main_v263, res_main_v266, v252_apply] <;> rfl

/-- The volume's gather. -/
theorem gather_vol (x : FVec Ideal S4x64x64x64 .f32) (idx : IVec S4x256x2x2x2x28x28x28x3 32) (i : Fin 4) (s : Fin 256) (dy dx dz : Fin 2)
    (a b c : Fin 28) :
    Host.gather gather_S4x64x64x64_S4x256x2x2x2x28x28x28x3_S4x256x2x2x2x28x28x28_n_123_0_0_123_8_1111 x idx (ix8 i s dy dx dz a b c)
      = x (ix4 i (clampTo 63 (idx (ix9 i s dy dx dz a b c 0))) (clampTo 63 (idx (ix9 i s dy dx dz a b c 1))) (clampTo 63 (idx (ix9 i s dy dx dz a b c 2)))) := by
  have hsi (k : ℕ) (h : k < 3) : GatherDims.siIdx gather_S4x64x64x64_S4x256x2x2x2x28x28x28x3_S4x256x2x2x2x28x28x28_n_123_0_0_123_8_1111
      (ix8 i s dy dx dz a b c) ⟨k, h⟩ = ix9 i s dy dx dz a b c (⟨k, h⟩ : Fin 3) := by
    funext m
    match m with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
  unfold Host.gather
  refine congrArg x (funext fun m => Fin.ext ?_)
  match m with
  | ⟨0, _⟩ => exact Nat.zero_add i.val
  | ⟨1, _⟩ => exact congrArg (fun z => min (idx z).toInt.toNat 63) (hsi 0 (by decide))
  | ⟨2, _⟩ => exact congrArg (fun z => min (idx z).toInt.toNat 63) (hsi 1 (by decide))
  | ⟨3, _⟩ => exact congrArg (fun z => min (idx z).toInt.toNat 63) (hsi 2 (by decide))

/-- The first of the three sums over corners. -/
theorem sum_y (x : FVec Ideal S4x256x2x2x2x28x28x28 .f32) (i : Fin 4) (s : Fin 256) (dx dz : Fin 2) (a b c : Fin 28) :
    Host.reduceAdd x (constant S_ .f32 0x00000000#32) reducesTo_S4x256x2x2x2x28x28x28_S4x256x2x2x28x28x28_d2 h_S_ (ix7 i s dx dz a b c)
      = ∑ d : Fin 2, x (ix8 i s d dx dz a b c) := by
  pointwise []
  show 0 + ∑ y ∈ _, x y = _
  rw [zero_add]
  refine Finset.sum_filter_eq_sum_of_fiber _ (fun d : Fin 2 => ix8 i s d dx dz a b c) (fun _ _ e => congrFun e 2) (fun y => ⟨fun e => ⟨y 2, ?_⟩, ?_⟩) x
  · have hv (k : Fin 7) := congrArg (fun z : S4x256x2x2x28x28x28.Idx => (z k).val) e
    refine funext fun m => Fin.ext ?_
    match m with
    | ⟨0, _⟩ => exact (hv 0).symm
    | ⟨1, _⟩ => exact (hv 1).symm
    | ⟨2, _⟩ => rfl
    | ⟨3, _⟩ => exact (hv 2).symm
    | ⟨4, _⟩ => exact (hv 3).symm
    | ⟨5, _⟩ => exact (hv 4).symm
    | ⟨6, _⟩ => exact (hv 5).symm
    | ⟨7, _⟩ => exact (hv 6).symm
  · rintro ⟨k, rfl⟩
    funext m
    match m with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl

/-- The second sum over corners. -/
theorem sum_x (x : FVec Ideal S4x256x2x2x28x28x28 .f32) (i : Fin 4) (s : Fin 256) (dz : Fin 2) (a b c : Fin 28) :
    Host.reduceAdd x (constant S_ .f32 0x00000000#32) reducesTo_S4x256x2x2x28x28x28_S4x256x2x28x28x28_d2 h_S_ (ix6 i s dz a b c)
      = ∑ d : Fin 2, x (ix7 i s d dz a b c) := by
  pointwise []
  show 0 + ∑ y ∈ _, x y = _
  rw [zero_add]
  refine Finset.sum_filter_eq_sum_of_fiber _ (fun d : Fin 2 => ix7 i s d dz a b c) (fun _ _ e => congrFun e 2) (fun y => ⟨fun e => ⟨y 2, ?_⟩, ?_⟩) x
  · have hv (k : Fin 6) := congrArg (fun z : S4x256x2x28x28x28.Idx => (z k).val) e
    refine funext fun m => Fin.ext ?_
    match m with
    | ⟨0, _⟩ => exact (hv 0).symm
    | ⟨1, _⟩ => exact (hv 1).symm
    | ⟨2, _⟩ => rfl
    | ⟨3, _⟩ => exact (hv 2).symm
    | ⟨4, _⟩ => exact (hv 3).symm
    | ⟨5, _⟩ => exact (hv 4).symm
    | ⟨6, _⟩ => exact (hv 5).symm
  · rintro ⟨k, rfl⟩
    funext m
    match m with
    | ⟨0, _⟩ => rfl
    | ⟨1, _⟩ => rfl
    | ⟨2, _⟩ => rfl
    | ⟨3, _⟩ => rfl
    | ⟨4, _⟩ => rfl
    | ⟨5, _⟩ => rfl

/-- The third sum over corners. -/
theorem sum_z (x : FVec Ideal S4x256x2x28x28x28 .f32) (i : Fin 4) (s : Fin 256) (a b c : Fin 28) :
    Host.reduceAdd x (constant S_ .f32 0x00000000#32) reducesTo_S4x256x2x28x28x28_S4x256x28x28x28_d2 h_S_ (ix5 i s a b c)
      = ∑ d : Fin 2, x (ix6 i s d a b c) := by
  pointwise []
  show 0 + ∑ y ∈ _, x y = _
  rw [zero_add]
  refine Finset.sum_filter_eq_sum_of_fiber _ (fun d : Fin 2 => ix6 i s d a b c) (fun _ _ e => congrFun e 2) (fun y => ⟨fun e => ⟨y 2, ?_⟩, ?_⟩) x
  · have hv (k : Fin 5) := congrArg (fun z : S4x256x28x28x28.Idx => (z k).val) e
    refine funext fun m => Fin.ext ?_
    match m with
    | ⟨0, _⟩ => exact (hv 0).symm
    | ⟨1, _⟩ => exact (hv 1).symm
    | ⟨2, _⟩ => rfl
    | ⟨3, _⟩ => exact (hv 2).symm
    | ⟨4, _⟩ => exact (hv 3).symm
    | ⟨5, _⟩ => exact (hv 4).symm
  · rintro ⟨k, rfl⟩
    funext m
    match m with
    | ⟨0, _⟩ => rfl
    | ⟨1, _⟩ => rfl
    | ⟨2, _⟩ => rfl
    | ⟨3, _⟩ => rfl
    | ⟨4, _⟩ => rfl

/-- The reference's masks. -/
def masks : FVec Ideal S4x256x28x28x28 .f32 :=
  Host.reduceAdd (Host.reduceAdd (Host.reduceAdd
        (mulf (weights V0) (Host.gather gather_S4x64x64x64_S4x256x2x2x2x28x28x28x3_S4x256x2x2x2x28x28x28_n_123_0_0_123_8_1111
          (V0 (Proc.devRef .tc main_arg4)) (nodes V0)))
        (constant S_ .f32 0x00000000#32) reducesTo_S4x256x2x2x2x28x28x28_S4x256x2x2x28x28x28_d2 h_S_)
      (constant S_ .f32 0x00000000#32) reducesTo_S4x256x2x2x28x28x28_S4x256x2x28x28x28_d2 h_S_)
    (constant S_ .f32 0x00000000#32) reducesTo_S4x256x2x28x28x28_S4x256x28x28x28_d2 h_S_

/-- The mask's element at three points: the eight corners' weighted sum. -/
def eight (vol : Fin 64 → Fin 64 → Fin 64 → EReal) (p q r : EReal) : EReal :=
  ∑ dz : Fin 2, ∑ dx : Fin 2, ∑ dy : Fin 2,
    weight p dy * weight q dx * weight r dz * vol (nodeOf (word p dy)) (nodeOf (word q dx)) (nodeOf (word r dz))

/-- The reference's masks at an index. -/
theorem masks_apply (i : Fin 4) (s : Fin 256) (a b c : Fin 28) :
    masks V0 (ix5 i s a b c)
      = eight (fun y x z => (V0 (Proc.devRef .tc main_arg4) : FVec Ideal S4x64x64x64 .f32) (ix4 i y x z)) (at_ V0 i s a 0) (at_ V0 i s b 1) (at_ V0 i s c 2) := by
  unfold masks eight
  rw [sum_z]
  refine Finset.sum_congr rfl fun dz _ => ?_
  rw [sum_x]
  refine Finset.sum_congr rfl fun dx _ => ?_
  rw [sum_y]
  refine Finset.sum_congr rfl fun dy _ => ?_
  show weights V0 _ * Host.gather _ _ _ _ = _
  rw [weights_apply, gather_vol, nodes_apply, nodes_apply, nodes_apply]
  rfl

end Cert.ReferenceIdeal.Mask

end
-- ==== Proof.Interp.lean ====
/- Linear interpolation two ways. The reference takes the two nodes around a coordinate, each clipped to the 64, with the
   fractional part's weights; the kernel clips the coordinate and sums over all 64 nodes with a tent of width one. -/
module

public import proofs.«01_k».proof.Proof.Crop
public import proofs.«01_k».proof.Proof.RefMask

@[expose] public section

set_option maxRecDepth 16384

noncomputable section

namespace Cert.Interp

open Idealize.ShloMosaic Cert.ReferenceIdeal.Mask

/-- A coordinate clipped to the nodes. -/
def clip (q : ℝ) : ℝ := min 63 (max 0 q)

/-- The tent's weight of a node. -/
def tent (q : ℝ) (v : Fin 64) : ℝ := max (1 - |clip q - v.val|) 0

/-- A corner's node. -/
def node (q : ℝ) (d : Fin 2) : Fin 64 := ⟨(min 63 (max 0 (⌊q⌋ + d.val))).toNat, by omega⟩

/-- A corner's weight. -/
def part (q : ℝ) (d : Fin 2) : ℝ := if d = 0 then 1 - Int.fract q else Int.fract q

/-- A corner's weight is not negative. -/
theorem part_nonneg (q : ℝ) (d : Fin 2) : 0 ≤ part q d := by
  unfold part
  split
  · linarith [Int.fract_lt_one q]
  · exact Int.fract_nonneg q

/-- The tent's weight of a node is what the corners give it. -/
theorem tent_eq (q : ℝ) (v : Fin 64) : tent q v = ∑ d : Fin 2, if v = node q d then part q d else 0 := by
  have hf := Int.floor_add_fract q
  have h0 := Int.fract_nonneg q
  have h1 := Int.fract_lt_one q
  rw [Fin.sum_univ_two]
  have e (d : Fin 2) : (v = node q d) = ((v.val : ℤ) = min 63 (max 0 (⌊q⌋ + d.val))) := by
    rw [Fin.ext_iff]
    exact propext ⟨fun h => by rw [h]; show (((min 63 (max 0 (⌊q⌋ + d.val))).toNat : ℕ) : ℤ) = _; omega,
      fun h => by show v.val = (min 63 (max 0 (⌊q⌋ + d.val))).toNat; omega⟩
  simp only [e 0, e 1]
  show tent q v = (if (v.val : ℤ) = min 63 (max 0 (⌊q⌋ + (0 : ℕ))) then 1 - Int.fract q else 0)
    + (if (v.val : ℤ) = min 63 (max 0 (⌊q⌋ + (1 : ℕ))) then Int.fract q else 0)
  have hv : v.val ≤ 63 := by omega
  have hvr : (v.val : ℝ) ≤ 63 := by exact_mod_cast hv
  have hv0 : (0 : ℝ) ≤ v.val := by positivity
  unfold tent clip
  rcases lt_or_ge ⌊q⌋ 0 with hn | hp
  · have hq : q < 0 := by simpa using Int.floor_lt.mp hn
    have c0 : min (63 : ℤ) (max 0 (⌊q⌋ + (0 : ℕ))) = 0 := by omega
    have c1 : min (63 : ℤ) (max 0 (⌊q⌋ + (1 : ℕ))) = 0 := by omega
    rw [c0, c1, max_eq_left hq.le, min_eq_right (by norm_num), zero_sub, abs_neg, abs_of_nonneg hv0]
    by_cases hz : v.val = 0
    · rw [hz]; simp
    · have : (1 : ℝ) ≤ v.val := by exact_mod_cast Nat.one_le_iff_ne_zero.mpr hz
      rw [if_neg (by exact_mod_cast hz), if_neg (by exact_mod_cast hz), max_eq_right (by linarith)]
      simp
  · have hq : 0 ≤ q := by
      have : (0 : ℝ) ≤ ⌊q⌋ := by exact_mod_cast hp
      linarith
    rw [max_eq_right hq]
    rcases le_or_gt 63 ⌊q⌋ with hl | hs
    · have hq' : (63 : ℝ) ≤ q := by
        have : (63 : ℝ) ≤ ⌊q⌋ := by exact_mod_cast hl
        linarith
      have c0 : min (63 : ℤ) (max 0 (⌊q⌋ + (0 : ℕ))) = 63 := by omega
      have c1 : min (63 : ℤ) (max 0 (⌊q⌋ + (1 : ℕ))) = 63 := by omega
      rw [c0, c1, min_eq_left hq', abs_of_nonneg (by linarith)]
      by_cases hz : v.val = 63
      · rw [hz]; simp
      · have : (v.val : ℝ) ≤ 62 := by exact_mod_cast (by omega : v.val ≤ 62)
        rw [if_neg (by exact_mod_cast hz), if_neg (by exact_mod_cast hz), max_eq_right (by linarith)]
        simp
    · have hq' : q < 63 := by
        have : ((⌊q⌋ : ℤ) : ℝ) ≤ 62 := by exact_mod_cast (by omega : ⌊q⌋ ≤ 62)
        linarith
      have c0 : min (63 : ℤ) (max 0 (⌊q⌋ + (0 : ℕ))) = ⌊q⌋ := by omega
      have c1 : min (63 : ℤ) (max 0 (⌊q⌋ + (1 : ℕ))) = ⌊q⌋ + 1 := by omega
      rw [c0, c1, min_eq_right hq'.le]
      rcases lt_trichotomy (v.val : ℤ) ⌊q⌋ with hlt | heq | hgt
      · have : (v.val : ℝ) + 1 ≤ ⌊q⌋ := by exact_mod_cast hlt
        rw [if_neg (by omega), if_neg (by omega), abs_of_nonneg (by linarith), max_eq_right (by linarith)]
        simp
      · have : (v.val : ℝ) = ⌊q⌋ := by exact_mod_cast heq
        rw [if_pos heq, if_neg (by omega), this, abs_of_nonneg (by linarith), max_eq_left (by linarith)]
        linarith
      · rcases eq_or_ne (v.val : ℤ) (⌊q⌋ + 1) with h | h
        · have : (v.val : ℝ) = ⌊q⌋ + 1 := by exact_mod_cast h
          rw [if_neg (by omega), if_pos h, this, abs_of_nonpos (by linarith), max_eq_left (by linarith)]
          linarith
        · have : (⌊q⌋ : ℝ) + 2 ≤ v.val := by exact_mod_cast (by omega : ⌊q⌋ + 2 ≤ (v.val : ℤ))
          rw [if_neg (by omega), if_neg h, abs_of_nonpos (by linarith), max_eq_right (by linarith)]
          simp

/-- A product with a sum of two weights. -/
theorem add_mul_coe {a b : ℝ} (ha : 0 ≤ a) (hb : 0 ≤ b) (x : EReal) : ((a + b : ℝ) : EReal) * x = a * x + b * x := by
  rw [EReal.coe_add]
  exact EReal.right_distrib_of_nonneg (EReal.coe_nonneg.mpr ha) (EReal.coe_nonneg.mpr hb)

/-- A weight's product with a sum of two. -/
theorem mul_add_coe {a : ℝ} (ha : 0 ≤ a) (x y : EReal) : (a : EReal) * (x + y) = a * x + a * y :=
  EReal.left_distrib_of_nonneg_of_ne_top (EReal.coe_nonneg.mpr ha) (EReal.coe_ne_top a) x y

/-- The tent's weighted sum is the two corners'. -/
theorem sum_tent (q : ℝ) (f : Fin 64 → EReal) : ∑ v, (tent q v : EReal) * f v = ∑ d : Fin 2, (part q d : EReal) * f (node q d) := by
  have h (v : Fin 64) : (tent q v : EReal) * f v
      = (if v = node q 0 then (part q 0 : EReal) * f (node q 0) else 0) + (if v = node q 1 then (part q 1 : EReal) * f (node q 1) else 0) := by
    rw [tent_eq, Fin.sum_univ_two, add_mul_coe]
    · congr 1
      · split
        · rename_i hv; rw [hv]
        · rw [EReal.coe_zero, zero_mul]
      · split
        · rename_i hv; rw [hv]
        · rw [EReal.coe_zero, zero_mul]
    · split
      · exact part_nonneg q 0
      · exact le_rfl
    · split
      · exact part_nonneg q 1
      · exact le_rfl
  rw [Finset.sum_congr rfl fun v _ => h v, Finset.sum_add_distrib, Finset.sum_ite_eq', Finset.sum_ite_eq', Fin.sum_univ_two]
  simp only [Finset.mem_univ, if_true]

/-- Three tents' weighted sums, one within another, are the eight corners' sum. -/
theorem three (p q r : ℝ) (vol : Fin 64 → Fin 64 → Fin 64 → EReal) :
    ∑ z, (∑ x, (∑ y, (tent p y : EReal) * vol y x z) * (tent q x : EReal)) * (tent r z : EReal)
      = ∑ dz : Fin 2, ∑ dx : Fin 2, ∑ dy : Fin 2,
          (part p dy : EReal) * part q dx * part r dz * vol (node p dy) (node q dx) (node r dz) := by
  have hy (x z : Fin 64) : ∑ y, (tent p y : EReal) * vol y x z = ∑ dy : Fin 2, (part p dy : EReal) * vol (node p dy) x z :=
    sum_tent p fun y => vol y x z
  have hx (z : Fin 64) : ∑ x, (∑ y, (tent p y : EReal) * vol y x z) * (tent q x : EReal)
      = ∑ dx : Fin 2, (part q dx : EReal) * ∑ dy : Fin 2, (part p dy : EReal) * vol (node p dy) (node q dx) z := by
    rw [← sum_tent q fun x => ∑ dy : Fin 2, (part p dy : EReal) * vol (node p dy) x z]
    exact Finset.sum_congr rfl fun x _ => by rw [hy, mul_comm]
  have hz : ∑ z, (∑ x, (∑ y, (tent p y : EReal) * vol y x z) * (tent q x : EReal)) * (tent r z : EReal)
      = ∑ dz : Fin 2, (part r dz : EReal) * ∑ dx : Fin 2, (part q dx : EReal) * ∑ dy : Fin 2, (part p dy : EReal) * vol (node p dy) (node q dx) (node r dz) := by
    rw [← sum_tent r fun z => ∑ dx : Fin 2, (part q dx : EReal) * ∑ dy : Fin 2, (part p dy : EReal) * vol (node p dy) (node q dx) z]
    exact Finset.sum_congr rfl fun z _ => by rw [hx, mul_comm]
  rw [hz]
  refine Finset.sum_congr rfl fun dz _ => ?_
  have d2 (w : ℝ) (hw : 0 ≤ w) (g : Fin 2 → EReal) : (w : EReal) * ∑ d, g d = ∑ d, (w : EReal) * g d := by
    rw [Fin.sum_univ_two, Fin.sum_univ_two, mul_add_coe hw]
  rw [d2 _ (part_nonneg r dz)]
  refine Finset.sum_congr rfl fun dx _ => ?_
  rw [d2 _ (part_nonneg q dx), d2 _ (part_nonneg r dz)]
  refine Finset.sum_congr rfl fun dy _ => ?_
  rw [← mul_assoc, ← mul_assoc, mul_comm (part r dz : EReal), mul_comm ((part q dx : EReal) * part r dz), mul_assoc (part p dy : EReal) (part q dx : EReal)]

/-- Sixty-three, as a float. -/
theorem bits63 : Ideal.ofBits .f32 0x427C0000#32 = ((63 : ℝ) : EReal) := by
  simp [Ideal.ofBits, Ideal.ieee, -EReal.coe_mul]
  norm_num

/-- Twenty-seven, as a float. -/
theorem bits27 : Ideal.ofBits .f32 0x41D80000#32 = ((27 : ℝ) : EReal) := by
  simp [Ideal.ofBits, Ideal.ieee, -EReal.coe_mul]
  norm_num

/-- The bound on the proposals, as a float. -/
theorem bitsBound : Ideal.ofBits .f32 0x4C000000#32 = ((33554432 : ℝ) : EReal) := by
  simp [Ideal.ofBits, Ideal.ieee, -EReal.coe_mul]
  norm_num

/-- A small count as a float. -/
theorem count (n : ℕ) (h : n < 2 ^ 31) : FloatOps.sitofp (F := Ideal) .f32 (BitVec.ofNat 32 n) = ((n : ℝ) : EReal) := by
  show (((BitVec.ofNat 32 n).toInt : ℝ) : EReal) = _
  rw [Cert.ReferenceIdeal.Picks.toInt_small h]
  norm_num

/-- The coordinate as a real number. -/
def real (lo hi : ℝ) (a : Fin 28) : ℝ := (lo + a.val * ((hi - lo) * 27⁻¹)) * 63

/-- The named reciprocal's value. -/
theorem inv27_eq : Cert.Crop.inv27 = ((27⁻¹ : ℝ) : EReal) := IdealRules.named_const.ideal_named_scalar _ _ _ _ rfl

/-- The reference's coordinate. -/
theorem coord_eq (lo hi : ℝ) (a : Fin 28) : coord lo hi a = ((real lo hi a : ℝ) : EReal) := by
  unfold coord real
  rw [bits27, bits63, count _ (by omega), Ideal.div_coe (by norm_num)]
  split
  · rw [show (1 : EReal) = ((1 : ℝ) : EReal) from rfl]
    simp only [← EReal.coe_mul, ← EReal.coe_sub, ← EReal.coe_add]
    congr 1
    ring
  · have : a.val = 27 := by omega
    rw [this, ← EReal.coe_mul]
    congr 1
    push_cast
    ring

/-- The greater of two reals. -/
theorem coe_max (x y : ℝ) : ((max x y : ℝ) : EReal) = max (x : EReal) y := EReal.coe_strictMono.monotone.map_max

/-- The lesser of two reals. -/
theorem coe_min (x y : ℝ) : ((min x y : ℝ) : EReal) = min (x : EReal) y := EReal.coe_strictMono.monotone.map_min

/-- The kernel's weight. -/
theorem weight_tent (lo hi : ℝ) (a : Fin 28) (v : Fin 64) : Cert.Crop.weight lo hi a v = ((tent (real lo hi a) v : ℝ) : EReal) := by
  have hp : Cert.Crop.place lo hi a = ((clip (real lo hi a) : ℝ) : EReal) := by
    unfold Cert.Crop.place clip real
    rw [inv27_eq, bits63, count _ (by omega), show (0 : EReal) = ((0 : ℝ) : EReal) from rfl]
    simp only [← EReal.coe_mul, ← EReal.coe_sub, ← EReal.coe_add, ← coe_max, ← coe_min]
  unfold Cert.Crop.weight tent
  rw [hp, count _ (by omega), ← EReal.coe_sub]
  show max (1 - max _ (-_)) 0 = _
  rw [show (0 : EReal) = ((0 : ℝ) : EReal) from rfl, show (1 : EReal) = ((1 : ℝ) : EReal) from rfl]
  simp only [← EReal.coe_neg, ← EReal.coe_sub, ← coe_max]
  rfl

/-- The reference's weight. -/
theorem weight_part (q : ℝ) (d : Fin 2) : weight (q : EReal) d = ((part q d : ℝ) : EReal) := by
  have : (q : EReal) - Ideal.liftRound Int.floor (q : EReal) = ((Int.fract q : ℝ) : EReal) := by
    show (q : EReal) - ((⌊q⌋ : ℝ) : EReal) = _
    rw [← EReal.coe_sub]
    rfl
  unfold weight part
  rw [this]
  split
  · rw [show (1 : EReal) = ((1 : ℝ) : EReal) from rfl, ← EReal.coe_sub]
  · rfl

/-- The reference's node, for a coordinate whose floor fits a word. -/
theorem node_word (q : ℝ) (hq : |q| ≤ 2130000000) (d : Fin 2) : nodeOf (word (q : EReal) d) = node q d := by
  obtain ⟨hl, hu⟩ := abs_le.mp hq
  have h0 : (-2130000000 : ℤ) ≤ ⌊q⌋ := Int.le_floor.mpr (by push_cast; exact hl)
  have h1 : ⌊q⌋ ≤ (2130000000 : ℤ) := by
    have := (Int.floor_le q).trans hu
    exact_mod_cast this
  have hw : word (q : EReal) d = BitVec.ofInt 32 (⌊q⌋ + d.val) := by
    show BitVec.ofInt 32 (Ideal.toIntClamped (-(2 ^ (32 - 1) : Nat)) ((2 ^ (32 - 1) : Nat) - 1) ((⌊q⌋ : ℝ) : EReal)) + BitVec.ofNat 32 d.val = _
    rw [Ideal.toIntClamped_coe, Int.floor_intCast, Int.ceil_intCast, ite_self, BitVec.ofInt_add]
    congr 2
    omega
  have ht : (word (q : EReal) d).toInt = ⌊q⌋ + d.val := by
    rw [hw, BitVec.toInt_ofInt, Int.bmod_eq_of_le] <;> omega
  refine Fin.ext ?_
  show (min 63 (max 0 (word (q : EReal) d).toInt)).toNat = (min 63 (max 0 (⌊q⌋ + d.val))).toNat
  rw [ht]

/-- A coordinate of bounded ends is bounded. -/
theorem real_bound (lo hi : ℝ) (hlo : |lo| ≤ 33554432) (hhi : |hi| ≤ 33554432) (a : Fin 28) : |real lo hi a| ≤ 2130000000 := by
  have ha : (a.val : ℝ) ≤ 27 := by exact_mod_cast (by omega : a.val ≤ 27)
  have ha0 : (0 : ℝ) ≤ a.val := by positivity
  obtain ⟨l0, l1⟩ := abs_le.mp hlo
  obtain ⟨h0, h1⟩ := abs_le.mp hhi
  have e : real lo hi a = (lo * (27 - a.val) + hi * a.val) * (63 / 27) := by
    unfold real
    ring
  rw [e, abs_le]
  constructor <;> nlinarith

/-- The masks' elements agree, for a row of bounded entries. -/
theorem mask_eq (row : Fin 6 → EReal) (r : Fin 6 → ℝ) (hr : ∀ k, row k = (r k : EReal)) (hb : ∀ k, |r k| ≤ 33554432)
    (vol : Fin 64 → Fin 64 → Fin 64 → EReal) (a b c : Fin 28) :
    Cert.Crop.mask row vol a b c = eight vol (coord (row 0) (row 3) a) (coord (row 1) (row 4) b) (coord (row 2) (row 5) c) := by
  unfold Cert.Crop.mask eight
  simp only [hr, coord_eq, weight_tent, weight_part]
  rw [three]
  refine Finset.sum_congr rfl fun dz _ => Finset.sum_congr rfl fun dx _ => Finset.sum_congr rfl fun dy _ => ?_
  rw [node_word _ (real_bound _ _ (hb 0) (hb 3) a), node_word _ (real_bound _ _ (hb 1) (hb 4) b), node_word _ (real_bound _ _ (hb 2) (hb 5) c)]

end Cert.Interp

end
-- ==== Proof.Results.lean ====
/- The five results: what the kernel leaves is what the reference leaves, from the same arguments. -/
module

public import proofs.«01_k».proof.Proof.Reads
public import proofs.«01_k».proof.Proof.Arrays1
public import proofs.«01_k».proof.Proof.Deltas
public import proofs.«01_k».proof.Proof.Interp

@[expose] public section

set_option maxRecDepth 16384

noncomputable section

namespace Cert.Results

open Idealize.ShloMosaic Idealize.ShloMosaic.TcCoe Idealize.ShloMosaic.StableHlo
open Cert.KernelIdeal.Gen Cert.KernelIdeal.Reads Cert.ReferenceIdeal.Value Cert.ReferenceIdeal.Picks

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V0 : Valuation Cert.ReferenceIdeal.τ Cert.ReferenceIdeal.sig (Elt Ideal))

/-- The reference's arguments are the kernel's. -/
structure Agree : Prop where
  props : V0 (Proc.devRef .tc Cert.ReferenceIdeal.main_arg0) = Cert.KernelIdeal.Reads.props m c
  image : V0 (Proc.devRef .tc Cert.ReferenceIdeal.main_arg1) = Cert.KernelIdeal.Reads.image m c
  boxes : V0 (Proc.devRef .tc Cert.ReferenceIdeal.main_arg2) = Cert.KernelIdeal.Reads.boxes m c
  labels : V0 (Proc.devRef .tc Cert.ReferenceIdeal.main_arg3) = Cert.KernelIdeal.Reads.labels m c
  vols : V0 (Proc.devRef .tc Cert.ReferenceIdeal.main_arg4) = Cert.KernelIdeal.Reads.vols m c

/-- A number bounded in size is real. -/
theorem real_of_bound {x : EReal} (hx : FloatOps.absf (F := Ideal) (φ := .f32) x ≤ ((33554432 : ℝ) : EReal)) :
    ∃ r : ℝ, x = (r : EReal) ∧ |r| ≤ 33554432 := by
  replace hx : max x (-x) ≤ ((33554432 : ℝ) : EReal) := hx
  induction x using EReal.rec with
  | bot => simp at hx
  | top => simp at hx
  | coe r =>
    refine ⟨r, rfl, ?_⟩
    rw [← EReal.coe_neg, ← Cert.Interp.coe_max, EReal.coe_le_coe_iff] at hx
    exact hx

variable {m c V0} (h : Agree m c V0)
include h

/-- The picks agree. -/
theorem picks_eq : picks m ρ c = res_main_v129 V0 := by
  unfold picks
  rw [scores_pos m ρ c V0 h.props h.image h.boxes, scores_neg m ρ c V0 h.props h.image h.boxes]
  exact flat_eq V0 _ _ (Cert.ReferenceIdeal.Score.v125_eq V0) (Cert.ReferenceIdeal.Score.v128_eq V0)

/-- The kernel's sampled proposals, row by row. -/
theorem rois_row (r : Fin 1024) (k : Fin 6) :
    Cert.KernelIdeal.Host.roisOf (F := Ideal) (props m c) (Cert.KernelIdeal.Host.roiOf (picks m ρ c)) (ix2 r k)
      = res_main_v132 V0 (ix3 (⟨r.val / 256, by omega⟩ : Fin 4) (⟨r.val % 256, by omega⟩ : Fin 256) k) := by
  rw [picks_eq ρ h, roiOf_eq, roisOf_apply, rois_apply, h.props]

/-- The kernel's boxes at the picks. -/
theorem boxes_row : Cert.KernelIdeal.Host.boxesOf (F := Ideal) (boxes m c) (Cert.KernelIdeal.Host.gtOf (picks m ρ c)) = res_main_v133 V0 := by
  rw [picks_eq ρ h, gtOf_eq, ← h.boxes]
  exact boxesOf_eq V0

/-- The second kernel's proposals. -/
theorem rois_in (r : Fin 1024) (k : Fin 6) :
    (W3 m ρ c (Proc.devRef .tc Cert.KernelIdeal.main_call0_v39) : FVec Ideal Cert.KernelIdeal.S1024x1x6 .f32) (ix3 r 0 k)
      = res_main_v132 V0 (ix3 (⟨r.val / 256, by omega⟩ : Fin 4) (⟨r.val % 256, by omega⟩ : Fin 256) k) := by
  rw [W3_rois_in, ← rois_row ρ h]
  pointwise []

/-- The second kernel's boxes. -/
theorem boxes_in (r : Fin 1024) (k : Fin 6) :
    (W3 m ρ c (Proc.devRef .tc Cert.KernelIdeal.main_call0_v40) : FVec Ideal Cert.KernelIdeal.S1024x1x6 .f32) (ix3 r 0 k)
      = res_main_v133 V0 (ix3 (⟨r.val / 256, by omega⟩ : Fin 4) (⟨r.val % 256, by omega⟩ : Fin 256) k) := by
  rw [W3_boxes_in, boxes_row ρ h]
  pointwise []

/-- A sampled proposal's entries are reals of bounded size. -/
theorem row_real (hb : ∀ j, FloatOps.absf (F := Ideal) (φ := .f32) (props m c j) ≤ ((33554432 : ℝ) : EReal)) (i : Fin 4) (s : Fin 256) :
    ∃ f : Fin 6 → ℝ, (∀ k, res_main_v132 V0 (ix3 i s k) = (f k : EReal)) ∧ ∀ k, |f k| ≤ 33554432 := by
  have hk (k : Fin 6) := real_of_bound (hb (ix2 (roiNo V0 i s) k))
  choose f hf using hk
  refine ⟨f, fun k => ?_, fun k => (hf k).2⟩
  rw [rois_apply, h.props]
  exact (hf k).1

/-- The first result: the sampled proposals. -/
theorem first : W5 m ρ c (Proc.devRef .tc Cert.KernelIdeal.main_v0_0)
    = shapeCast Cert.ReferenceIdeal.S1024x6 (res_main_v132 V0) Cert.ReferenceIdeal.Gen.shapeCasts_S4x256x6_S1024x6 := by
  rw [result0]
  funext j
  obtain ⟨r, k, rfl⟩ : ∃ (r : Fin 1024) (k : Fin 6), j = ix2 r k := ⟨j 0, j 1, eq_ix2 j⟩
  rw [rois_row ρ h]
  pointwise []

/-- The second result: the regression targets. -/
theorem second : W5 m ρ c (Proc.devRef .tc Cert.KernelIdeal.main_v0_1)
    = shapeCast Cert.ReferenceIdeal.S1024x6 (Cert.ReferenceIdeal.Deltas.targets V0) Cert.ReferenceIdeal.Gen.shapeCasts_S4x256x6_S1024x6 := by
  rw [result1, Cert.KernelIdeal.Arrays.arrDelta]
  funext j
  obtain ⟨r, k, rfl⟩ : ∃ (r : Fin 1024) (k : Fin 6), j = ix2 r k := ⟨j 0, j 1, eq_ix2 j⟩
  pointwise [Cert.ReferenceIdeal.Deltas.targets_apply]
  have hx (q : Fin 6) : (V3 m ρ c Cert.KernelIdeal.main_call0_v39 : FVec Ideal Cert.KernelIdeal.S1024x1x6 .f32) (ix3 r 0 q)
      = res_main_v132 V0 (ix3 (⟨r.val / 256, by omega⟩ : Fin 4) (⟨r.val % 256, by omega⟩ : Fin 256) q) := rois_in ρ h r q
  have hy (q : Fin 6) : (V3 m ρ c Cert.KernelIdeal.main_call0_v40 : FVec Ideal Cert.KernelIdeal.S1024x1x6 .f32) (ix3 r 0 q)
      = res_main_v133 V0 (ix3 (⟨r.val / 256, by omega⟩ : Fin 4) (⟨r.val % 256, by omega⟩ : Fin 256) q) := boxes_in ρ h r q
  show Cert.Crop.delta (fun q => (V3 m ρ c Cert.KernelIdeal.main_call0_v40 : FVec Ideal Cert.KernelIdeal.S1024x1x6 .f32) (ix3 r 0 q))
    (fun q => (V3 m ρ c Cert.KernelIdeal.main_call0_v39 : FVec Ideal Cert.KernelIdeal.S1024x1x6 .f32) (ix3 r 0 q)) k = _
  rw [funext hx, funext hy]

/-- The reference's labels. -/
def labelsRef (V0 : Valuation Cert.ReferenceIdeal.τ Cert.ReferenceIdeal.sig (Elt Ideal)) : IVec Cert.ReferenceIdeal.S4x256 32 :=
  open Cert.ReferenceIdeal Cert.ReferenceIdeal.Gen in
  Host.scatter scatter_S4x256_S1_S4x192_01_n_1_0 (fun _ b => b)
    (select (Cert.KernelIdeal.Host.inEight (res_main_call10_v5 V0))
      (Host.gather gather_S4x8_S4x256x1_S4x256_n_1_0_0_1_2_11 (V0 (Proc.devRef .tc main_arg3)) (res_main_call10_v5 V0))
      (broadcastInDim S4x256 ![] Cert.ReferenceIdeal.Gen.bcast_S_S4x256 (constantI S_ 32 2147483648#32)))
    (broadcastInDim S1 ![] Cert.ReferenceIdeal.Gen.bcast_S_S1 (constantI S_ 32 64#32))
    (broadcastInDim S4x192 ![1] bcast_S192_S4x192_1 (broadcastInDim S192 ![] bcast_S_S192 (constantI S_ 32 0#32)))

/-- The third result: the sampled labels. -/
theorem third : W5 m ρ c (Proc.devRef .tc Cert.KernelIdeal.main_v0_2)
    = shapeCast Cert.ReferenceIdeal.S1024 (labelsRef V0) Cert.ReferenceIdeal.Gen.shapeCasts_S4x256_S1024 := by
  rw [result2, picks_eq ρ h, gtOf_eq, ← h.labels]
  unfold Cert.KernelIdeal.Host.labelsOf labelsRef
  rw [labelIx_eq]
  rfl

/-- The fourth result: the masks, of proposals bounded in size. -/
theorem fourth (hb : ∀ j, FloatOps.absf (F := Ideal) (φ := .f32) (props m c j) ≤ ((33554432 : ℝ) : EReal)) :
    W5 m ρ c (Proc.devRef .tc Cert.KernelIdeal.main_v0_3)
      = shapeCast Cert.ReferenceIdeal.S1024x28x28x28 (Cert.ReferenceIdeal.Mask.masks V0)
          Cert.ReferenceIdeal.Gen.shapeCasts_S4x256x28x28x28_S1024x28x28x28 := by
  rw [result3, Cert.KernelIdeal.Arrays.arrMask]
  funext j
  obtain ⟨r, x, y, z, rfl⟩ : ∃ (r : Fin 1024) (x y z : Fin 28), j = ix4 r x y z := ⟨j 0, j 1, j 2, j 3, eq_ix4 j⟩
  pointwise [Cert.ReferenceIdeal.Mask.masks_apply]
  have hx (q : Fin 6) : (V3 m ρ c Cert.KernelIdeal.main_call0_v39 : FVec Ideal Cert.KernelIdeal.S1024x1x6 .f32) (ix3 r 0 q)
      = res_main_v132 V0 (ix3 (⟨r.val / 256, by omega⟩ : Fin 4) (⟨r.val % 256, by omega⟩ : Fin 256) q) := rois_in ρ h r q
  have hv : V3 m ρ c Cert.KernelIdeal.main_arg4 = V0 (Proc.devRef .tc Cert.ReferenceIdeal.main_arg4) :=
    (W3_args m ρ c Cert.KernelIdeal.main_arg4 (by decide)).trans h.vols.symm
  obtain ⟨f, hf, hfb⟩ := row_real h hb (⟨r.val / 256, by omega⟩ : Fin 4) (⟨r.val % 256, by omega⟩ : Fin 256)
  show Cert.Crop.mask (fun q => (V3 m ρ c Cert.KernelIdeal.main_call0_v39 : FVec Ideal Cert.KernelIdeal.S1024x1x6 .f32) (ix3 r 0 q))
    (fun y x z => (V3 m ρ c Cert.KernelIdeal.main_arg4 : FVec Ideal Cert.KernelIdeal.S4x64x64x64 .f32) (ix4 (Cert.KernelIdeal.Arrays.imageOf r) y x z)) x y z = _
  rw [funext hx, hv]
  exact Cert.Interp.mask_eq _ f hf hfb _ x y z

/-- The fifth result: the image numbers. -/
theorem fifth : W5 m ρ c (Proc.devRef .tc Cert.KernelIdeal.main_v0_4)
    = shapeCast Cert.ReferenceIdeal.S1024 (broadcastInDim Cert.ReferenceIdeal.S4x256 ![0] Cert.ReferenceIdeal.Gen.bcast_S4_S4x256_0 (res_main_v0 V0))
        Cert.ReferenceIdeal.Gen.shapeCasts_S4x256_S1024 := by
  rw [result4]
  funext j
  obtain ⟨r, rfl⟩ : ∃ r : Fin 1024, j = ix1 r := ⟨j 0, eq_ix1 j⟩
  pointwise [res_main_v0]

end Cert.Results

end
-- ==== Proof.lean ====
/- The claims of the one certificate: the three frames, that the idealized kernel is the kernel with one literal named, and
   that the idealized kernel's five results are the reference's. -/
module

public import proofs.«01_k».proof.Defs
public import proofs.«01_k».proof.Proof.Gen.Kernel.Frame
public import proofs.«01_k».proof.Proof.KRun
public import proofs.«01_k».proof.Proof.Results
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.ShloMosaic.TcCoe Idealize.SL.Sem Cert.Kernel

/-- The precondition's one shape relation. -/
theorem preFacts : Cert.Pre_proposals_bounded.Facts := ⟨by decide⟩

/-- The reference runs and leaves its arguments and the counters as they were. -/
theorem referenceFrame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run (Cert.ReferenceIdeal.defs (F := Ideal)) _ _).mono
    (fun r h => ⟨fun c => (h c).2.2.2.2.2, sem_eq_zero_of_no_sems (by decide) r.2⟩)
    (Cert.ReferenceIdeal.Value.run (F := Ideal) m g)

/-- The precondition, at an element. -/
theorem bounded (x : FVec Ideal Cert.KernelIdeal.S20000x6 .f32) (a1 : IVec Cert.KernelIdeal.S20000 32) (a2 : FVec Ideal Cert.KernelIdeal.S4x8x6 .f32)
    (a3 : IVec Cert.KernelIdeal.S4x8 32) (a4 : FVec Ideal Cert.KernelIdeal.S4x64x64x64 .f32)
    (h : @Cert.Pre_proposals_bounded.fn preFacts Ideal _ x a1 a2 a3 a4 = fun _ => 1#1) (j : Cert.KernelIdeal.S20000x6.Idx) :
    FloatOps.absf (F := Ideal) (φ := .f32) (x j) ≤ ((33554432 : ℝ) : EReal) := by
  have e := congrFun h j
  have e' : FloatOps.cmpf (F := Ideal) (φ := .f32) .ole (FloatOps.absf (F := Ideal) (φ := .f32) (x j)) (Ideal.ofBits .f32 0x4C000000#32) = 1#1 := e
  rw [Cert.Interp.bitsBound] at e'
  by_contra hn
  have : FloatOps.cmpf (F := Ideal) (φ := .f32) .ole (FloatOps.absf (F := Ideal) (φ := .f32) (x j)) ((33554432 : ℝ) : EReal) = 0#1 := by
    show BitVec.ofBool (decide _) = _
    rw [decide_eq_false hn]
    rfl
  rw [this] at e'
  exact absurd e' (by decide)

/-- All the claims. -/
theorem claim : Cert.Claim := by
  refine ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => referenceFrame m g, fun m g _ => referenceFrame m g,
    IdealRules.named_const.statement Cert.KernelIdeal.κ "inv27" .f32 0x3D17B426#32 ((27⁻¹ : ℝ) : EReal) rfl, ?_⟩
  intro m g m' g' hpre hag
  have hA (c : Dev Cert.KernelIdeal.nD) : Cert.Results.Agree m c (launchContents m' c) :=
    ⟨(hag c).1, (hag c).2.1, (hag c).2.2.1, (hag c).2.2.2.1, (hag c).2.2.2.2⟩
  have hB (c : Dev Cert.KernelIdeal.nD) (j) := bounded _ _ _ _ _ (hpre c) j
  refine ⟨fun c => Cert.KernelIdeal.Gen.W5 m g c (Proc.devRef .tc Cert.KernelIdeal.main_v0_0), fun c => Cert.KernelIdeal.Gen.W5 m g c (Proc.devRef .tc Cert.KernelIdeal.main_v0_1),
    fun c => Cert.KernelIdeal.Gen.W5 m g c (Proc.devRef .tc Cert.KernelIdeal.main_v0_2), fun c => Cert.KernelIdeal.Gen.W5 m g c (Proc.devRef .tc Cert.KernelIdeal.main_v0_3),
    fun c => Cert.KernelIdeal.Gen.W5 m g c (Proc.devRef .tc Cert.KernelIdeal.main_v0_4), Cert.KernelIdeal.Gen.run_results m g, ?_⟩
  refine (θ_run (Cert.ReferenceIdeal.defs (F := Ideal)) _ _).mono (fun r h c => ?_) (Cert.ReferenceIdeal.Value.run (F := Ideal) m' g')
  obtain ⟨h0, h1, h2, h3, h4, ha⟩ := h c
  exact ⟨h0.trans (Cert.Results.first g (hA c)).symm, h1.trans (Cert.Results.second g (hA c)).symm, h2.trans (Cert.Results.third g (hA c)).symm,
    h3.trans (Cert.Results.fourth g (hA c) (hB c)).symm, h4.trans (Cert.Results.fifth g (hA c)).symm, ha⟩

end Cert.Proof

end
